-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29_0) = v0 c
          ∧ r.2.mem ((c.tc : Thread Cert.ReferenceIdeal.nD Cert.ReferenceIdeal.τ).loc Cert.ReferenceIdeal.main_v29_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x7168 : Shape := ⟨3, ![8, 4096, 7168]⟩
abbrev S8x4096x56 : Shape := ⟨3, ![8, 4096, 56]⟩
abbrev S7168x896 : Shape := ⟨2, ![7168, 896]⟩
abbrev S56x7 : Shape := ⟨2, ![56, 7]⟩
abbrev S896 : Shape := ⟨1, ![896]⟩
abbrev S32768x7168 : Shape := ⟨2, ![32768, 7168]⟩
abbrev S32768x56 : Shape := ⟨2, ![32768, 56]⟩
abbrev S1x896 : Shape := ⟨2, ![1, 896]⟩
abbrev S32768x896 : Shape := ⟨2, ![32768, 896]⟩
abbrev S32768x1 : Shape := ⟨2, ![32768, 1]⟩
abbrev S512x7168 : Shape := ⟨2, ![512, 7168]⟩
abbrev S512x56 : Shape := ⟨2, ![512, 56]⟩
abbrev S512x896 : Shape := ⟨2, ![512, 896]⟩
abbrev S512x1 : Shape := ⟨2, ![512, 1]⟩
abbrev S1x1 : Shape := ⟨2, ![1, 1]⟩
abbrev S128x128 : Shape := ⟨2, ![128, 128]⟩
abbrev S512x128 : Shape := ⟨2, ![512, 128]⟩
abbrev S512 : Shape := ⟨1, ![512]⟩

abbrev nBuf : Space → Nat
  | .hbm => 10
  | .vmem => 12
  | .smem => 1
  | _ => 0

abbrev bufTy : (tb : Table) → Fin (tcTables nBuf tb) → BufTy
  | .hbm, ⟨0, _⟩ => ⟨S8x4096x7168, .fp8e4m3⟩
  | .hbm, ⟨1, _⟩ => ⟨S8x4096x56, .f32⟩
  | .hbm, ⟨2, _⟩ => ⟨S7168x896, .fp8e4m3⟩
  | .hbm, ⟨3, _⟩ => ⟨S56x7, .f32⟩
  | .hbm, ⟨4, _⟩ => ⟨S896, .bf16⟩
  | .hbm, ⟨5, _⟩ => ⟨S32768x7168, .fp8e4m3⟩
  | .hbm, ⟨6, _⟩ => ⟨S32768x56, .f32⟩
  | .hbm, ⟨7, _⟩ => ⟨S1x896, .bf16⟩
  | .hbm, ⟨8, _⟩ => ⟨S32768x896, .fp8e4m3⟩
  | .hbm, ⟨9, _⟩ => ⟨S32768x1, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x56, .f32⟩
  | .local _ .vmem, ⟨3, _⟩ => ⟨S512x56, .f32⟩
  | .local _ .vmem, ⟨4, _⟩ => ⟨S7168x896, .fp8e4m3⟩
  | .local _ .vmem, ⟨5, _⟩ => ⟨S1x896, .bf16⟩
  | .local _ .vmem, ⟨6, _⟩ => ⟨S512x896, .fp8e4m3⟩
  | .local _ .vmem, ⟨7, _⟩ => ⟨S512x896, .fp8e4m3⟩
  | .local _ .vmem, ⟨8, _⟩ => ⟨S512x1, .f32⟩
  | .local _ .vmem, ⟨9, _⟩ => ⟨S512x1, .f32⟩
  | .local _ .vmem, ⟨10, _⟩ => ⟨S7168x896, .bf16⟩
  | .local _ .vmem, ⟨11, _⟩ => ⟨S512x7168, .bf16⟩
  | .local _ .smem, ⟨0, _⟩ => ⟨S56x7, .f32⟩
  | _, _ => ⟨S8x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S56x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7168x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x896 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x4096x7168 : Shape := ⟨3, ![8, 4096, 7168]⟩
abbrev S8x4096x56 : Shape := ⟨3, ![8, 4096, 56]⟩
abbrev S7168x896 : Shape := ⟨2, ![7168, 896]⟩
abbrev S56x7 : Shape := ⟨2, ![56, 7]⟩
abbrev S896 : Shape := ⟨1, ![896]⟩
abbrev S7168 : Shape := ⟨1, ![7168]⟩
abbrev S1x7168 : Shape := ⟨2, ![1, 7168]⟩
abbrev S_ : Shape := ⟨0, ![]⟩
abbrev S56 : Shape := ⟨1, ![56]⟩
abbrev S56x1 : Shape := ⟨2, ![56, 1]⟩
abbrev S56x7168 : Shape := ⟨2, ![56, 7168]⟩
abbrev S1x896 : Shape := ⟨2, ![1, 896]⟩
abbrev S7 : Shape := ⟨1, ![7]⟩
abbrev S7x1 : Shape := ⟨2, ![7, 1]⟩
abbrev S7x896 : Shape := ⟨2, ![7, 896]⟩
abbrev S56x896 : Shape := ⟨2, ![56, 896]⟩
abbrev S32768x7168 : Shape := ⟨2, ![32768, 7168]⟩
abbrev S32768x896 : Shape := ⟨2, ![32768, 896]⟩
abbrev S32768x1 : Shape := ⟨2, ![32768, 1]⟩
abbrev S32768 : Shape := ⟨1, ![32768]⟩
abbrev S1x252 : Shape := ⟨2, ![1, 252]⟩
abbrev S32768x252 : Shape := ⟨2, ![32768, 252]⟩

abbrev nBuf : Space → Nat
  | .hbm => 70
  | .vmem => 7
  | .smem => 0
  | _ => 0

abbrev bufTy : (tb : Table) → Fin (tcTables nBuf tb) → BufTy
  | .hbm, ⟨0, _⟩ => ⟨S8x4096x7168, .fp8e4m3⟩
  | .hbm, ⟨1, _⟩ => ⟨S8x4096x56, .f32⟩
  | .hbm, ⟨2, _⟩ => ⟨S7168x896, .fp8e4m3⟩
  | .hbm, ⟨3, _⟩ => ⟨S56x7, .f32⟩
  | .hbm, ⟨4, _⟩ => ⟨S896, .bf16⟩
  | .hbm, ⟨5, _⟩ => ⟨S7168, .i32⟩
  | .hbm, ⟨6, _⟩ => ⟨S1x7168, .i32⟩
  | .hbm, ⟨7, _⟩ => ⟨S_, .i32⟩
  | .hbm, ⟨8, _⟩ => ⟨S_, .i32⟩
  | .hbm, ⟨9, _⟩ => ⟨S1x7168, .i32⟩
  | .hbm, ⟨10, _⟩ => ⟨S1x7168, .i32⟩
  | .hbm, ⟨11, _⟩ => ⟨S1x7168, .i32⟩
  | .hbm, ⟨12, _⟩ => ⟨S_, .i32⟩
  | .hbm, ⟨13, _⟩ => ⟨S1x7168, .i32⟩
  | .hbm, ⟨14, _⟩ => ⟨S1x7168, .i1⟩
  | .hbm, ⟨15, _⟩ => ⟨S1x7168, .i32⟩
  | .hbm, ⟨16, _⟩ => ⟨S1x7168, .i32⟩
  | .hbm, ⟨17, _⟩ => ⟨S_, .i32⟩
  | .hbm, ⟨18, _⟩ => ⟨S1x7168, .i32⟩
  | .hbm, ⟨19, _⟩ => ⟨S1x7168, .i1⟩
  | .hbm, ⟨20, _⟩ => ⟨S1x7168, .i1⟩
  | .hbm, ⟨21, _⟩ => ⟨S_, .i32⟩
  | .hbm, ⟨22, _⟩ => ⟨S1x7168, .i32⟩
  | .hbm, ⟨23, _⟩ => ⟨S1x7168, .i32⟩
  | .hbm, ⟨24, _⟩ => ⟨S1x7168, .i32⟩
  | .hbm, ⟨25, _⟩ => ⟨S56, .i32⟩
  | .hbm, ⟨26, _⟩ => ⟨S56x1, .i32⟩
  | .hbm, ⟨27, _⟩ => ⟨S56x7168, .i32⟩
  | .hbm, ⟨28, _⟩ => ⟨S56x7168, .i32⟩
  | .hbm, ⟨29, _⟩ => ⟨S56x7168, .i1⟩
  | .hbm, ⟨30, _⟩ => ⟨S56x7168, .bf16⟩
  | .hbm, ⟨31, _⟩ => ⟨S896, .i32⟩
  | .hbm, ⟨32, _⟩ => ⟨S1x896, .i32⟩
  | .hbm, ⟨33, _⟩ => ⟨S_, .i32⟩
  | .hbm, ⟨34, _⟩ => ⟨S_, .i32⟩
  | .hbm, ⟨35, _⟩ => ⟨S1x896, .i32⟩
  | .hbm, ⟨36, _⟩ => ⟨S1x896, .i32⟩
  | .hbm, ⟨37, _⟩ => ⟨S1x896, .i32⟩
  | .hbm, ⟨38, _⟩ => ⟨S_, .i32⟩
  | .hbm, ⟨39, _⟩ => ⟨S1x896, .i32⟩
  | .hbm, ⟨40, _⟩ => ⟨S1x896, .i1⟩
  | .hbm, ⟨41, _⟩ => ⟨S1x896, .i32⟩
  | .hbm, ⟨42, _⟩ => ⟨S1x896, .i32⟩
  | .hbm, ⟨43, _⟩ => ⟨S_, .i32⟩
  | .hbm, ⟨44, _⟩ => ⟨S1x896, .i32⟩
  | .hbm, ⟨45, _⟩ => ⟨S1x896, .i1⟩
  | .hbm, ⟨46, _⟩ => ⟨S1x896, .i1⟩
  | .hbm, ⟨47, _⟩ => ⟨S_, .i32⟩
  | .hbm, ⟨48, _⟩ => ⟨S1x896, .i32⟩
  | .hbm, ⟨49, _⟩ => ⟨S1x896, .i32⟩
  | .hbm, ⟨50, _⟩ => ⟨S1x896, .i32⟩
  | .hbm, ⟨51, _⟩ => ⟨S7, .i32⟩
  | .hbm, ⟨52, _⟩ => ⟨S7x1, .i32⟩
  | .hbm, ⟨53, _⟩ => ⟨S7x896, .i32⟩
  | .hbm, ⟨54, _⟩ => ⟨S7x896, .i32⟩
  | .hbm, ⟨55, _⟩ => ⟨S7x896, .i1⟩
  | .hbm, ⟨56, _⟩ => ⟨S7x896, .bf16⟩
  | .hbm, ⟨57, _⟩ => ⟨S8x4096x56, .bf16⟩
  | .hbm, ⟨58, _⟩ => ⟨S8x4096x7168, .f32⟩
  | .hbm, ⟨59, _⟩ => ⟨S56x7, .bf16⟩
  | .hbm, ⟨60, _⟩ => ⟨S56x896, .f32⟩
  | .hbm, ⟨61, _⟩ => ⟨S56x896, .bf16⟩
  | .hbm, ⟨62, _⟩ => ⟨S7168x896, .f32⟩
  | .hbm, ⟨63, _⟩ => ⟨S32768x7168, .fp8e4m3⟩
  | .hbm, ⟨64, _⟩ => ⟨S8x4096x7168, .bf16⟩
  | .hbm, ⟨65, _⟩ => ⟨S32768x7168, .bf16⟩
  | .hbm, ⟨66, _⟩ => ⟨S7168x896, .bf16⟩
  | .hbm, ⟨67, _⟩ => ⟨S1x896, .bf16⟩
  | .hbm, ⟨68, _⟩ => ⟨S32768x896, .fp8e4m3⟩
  | .hbm, ⟨69, _⟩ => ⟨S32768x1, .f32⟩
  | .local _ .vmem, ⟨0, _⟩ => ⟨S32768x7168, .fp8e4m3⟩
  | .local _ .vmem, ⟨1, _⟩ => ⟨S32768x7168, .bf16⟩
  | .local _ .vmem, ⟨2, _⟩ => ⟨S7168x896, .fp8e4m3⟩
  | .local _ .vmem, ⟨3, _⟩ => ⟨S7168x896, .bf16⟩
  | .local _ .vmem, ⟨4, _⟩ => ⟨S1x896, .bf16⟩
  | .local _ .vmem, ⟨5, _⟩ => ⟨S32768x896, .fp8e4m3⟩
  | .local _ .vmem, ⟨6, _⟩ => ⟨S32768x1, .f32⟩
  | _, _ => ⟨S8x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29_0 : Ref sig .tc := ⟨.hbm, 68, rfl⟩
abbrev main_v29_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x896 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelArrays.lean ====
/- What the kernel's host lines leave in the arrays of its pallas_call: rank-2 views of the arguments. -/
module

public import proofs.«01_k».proof.Proof.Gen.KernelIdeal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.KernelArrays

open Idealize.ShloMosaic Idealize.ShloMosaic.TcCoe Cert.KernelIdeal Cert.KernelIdeal.Gen

variable (m : (ℓ : Loc nD τ sig) → Buf (Elt Ideal) ℓ) (c : Dev nD)

theorem v0_eq : V m c main_v0 = shapeCast S32768x7168 (V m c main_arg0 : Vec Ideal S8x4096x7168 .fp8e4m3) shapeCasts_S8x4096x7168_S32768x7168 := by
  rw [V_main_arg0]
  unfold V
  simp only [hostOps0, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

theorem v1_eq : V m c main_v1 = shapeCast S32768x56 (V m c main_arg1 : Vec Ideal S8x4096x56 .f32) shapeCasts_S8x4096x56_S32768x56 := by
  rw [V_main_arg1]
  unfold V
  simp only [hostOps0, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

theorem v2_eq : V m c main_v2 = shapeCast S1x896 (V m c main_arg4 : Vec Ideal S896 .bf16) shapeCasts_S896_S1x896 := by
  rw [V_main_arg4]
  unfold V
  simp only [hostOps0, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

/-- The rank-2 view of the activations' scales at an index. -/
theorem view_apply (x1 : Vec Ideal S8x4096x56 .f32) (t : Fin 32768) (g : Fin 56) :
    (shapeCast S32768x56 x1 shapeCasts_S8x4096x56_S32768x56 : Vec Ideal S32768x56 .f32) (ix2 t g) =
      x1 (ix3 ⟨t.val / 4096, by omega⟩ ⟨t.val % 4096, by omega⟩ g) := by
  pointwise

end Cert.KernelArrays

end
-- ==== Proof.WeightScratch.lean ====
/- The weights' scratch array: the 392 tiles that the first point stores into it are the blocks of ONE function of the
   weight codes and their block scales, so the array holds that function. -/
module
public import proofs.«01_k».proof.Proof.Gen.KernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
namespace Cert.WeightScratch
open Idealize.ShloMosaic Cert.KernelIdeal Cert.KernelIdeal.Gen

/-- The scaled weights: every code times the scale of its block of 128 by 128. -/
def WW (x0 : Vec Ideal S56x7 .f32) (x3 : Vec Ideal S7168x896 .fp8e4m3) : FVec Ideal S7168x896 .bf16 := fun i =>
  (x3 i : EReal) * x0 (ix2 ⟨(i 0).val / 128, by have : (i 0).val < 7168 := (i 0).isLt; omega⟩ ⟨(i 1).val / 128, by have : (i 1).val < 896 := (i 1).isLt; omega⟩)

/-- One tile as the body computes it. -/
def WT (s : Ideal .f32) (w : Vec Ideal S128x128 .fp8e4m3) : FVec Ideal S128x128 .bf16 :=
  shapeCast S128x128 (mulf (extf .bf16 w bitsLt_fp8e4m3_bf16) (truncf .bf16 (broadcast S128x128 s) bitsLt_bf16_f32)) shapeCasts_S128x128_S128x128

theorem WT_apply (s : Ideal .f32) (w : Vec Ideal S128x128 .fp8e4m3) (x : S128x128.Idx) : WT s w x = ((w x : EReal) * s : EReal) := by
  unfold WT
  pointwise

/-- A tile of the body is its block of `WW`. -/
theorem wpiece (arg1 : Memref sig .tc .smem S56x7 .f32) (harg1 : arg1.IsWhole) (arg4 : Memref sig .tc .vmem S7168x896 .fp8e4m3) (harg4 : arg4.IsWhole)
   (x0 : Vec Ideal S56x7 .f32) (x3 : Vec Ideal S7168x896 .fp8e4m3) (o1 o2 g b : ℕ) (h1 : o1 = 128 * g) (h2 : o2 = 128 * b)
   (i1 : ∀ a, ![g, b] a + S1x1.size a ≤ S56x7.size a) (i2 i3 : ∀ a, ![o1, o2] a + S128x128.size a ≤ S7168x896.size a) (hf) (x : S128x128.Idx) :
   WT (View.readAt (Elt Ideal) arg1.view (Rect.unit (s := S56x7) ![g, b] S1x1.size i1).toLoadRect (harg1.unread x0) (Shape.Idx.first hf))
     (View.readAt (Elt Ideal) arg4.view (Rect.unit (s := S7168x896) ![o1, o2] S128x128.size i2).toLoadRect (harg4.unread x3)) x
   = WW x0 x3 ((Rect.unit (s := S7168x896) ![o1, o2] S128x128.size i3).emb x) := by
  rw [WT_apply]
  simp only [View.readAt_eq_ld, Memref.IsWhole.read_unread]
  unfold WW
  subst h1 h2
  have e0 : ((Rect.unit (s := S7168x896) ![128 * g, 128 * b] S128x128.size i3).emb x 0).val = 128 * g + 1 * (x 0).val := rfl
  have e1 : ((Rect.unit (s := S7168x896) ![128 * g, 128 * b] S128x128.size i3).emb x 1).val = 128 * b + 1 * (x 1).val := rfl
  have l0 : (x 0).val < 128 := (x 0).isLt
  have l1 : (x 1).val < 128 := (x 1).isLt
  pointwise
  congr 2
  · funext a; apply Fin.ext
    match a with
    | ⟨0, _⟩ => show 128 * g + (x 0).val = ((Rect.unit (s := S7168x896) ![128 * g, 128 * b] S128x128.size i3).emb x 0).val; omega
    | ⟨1, _⟩ => show 128 * b + (x 1).val = ((Rect.unit (s := S7168x896) ![128 * g, 128 * b] S128x128.size i3).emb x 1).val; omega
  · funext a; apply Fin.ext
    match a with
    | ⟨0, _⟩ => show g = ((Rect.unit (s := S7168x896) ![128 * g, 128 * b] S128x128.size i3).emb x 0).val / 128; omega
    | ⟨1, _⟩ => show b = ((Rect.unit (s := S7168x896) ![128 * g, 128 * b] S128x128.size i3).emb x 1).val / 128; omega

theorem inb1 {o1 o2 : ℕ} (i3 : ∀ a, ![o1, o2] a + S128x128.size a ≤ S7168x896.size a) : ∀ a, ![o1 / 128, o2 / 128] a + S1x1.size a ≤ S56x7.size a := by
  intro a
  have a0 : o1 + 128 ≤ 7168 := i3 0
  have a1 : o2 + 128 ≤ 896 := i3 1
  match a with
  | ⟨0, _⟩ => show o1 / 128 + 1 ≤ 56; omega
  | ⟨1, _⟩ => show o2 / 128 + 1 ≤ 7; omega

/-- One more tile: its payload is the body's (`WT`), so it is a block of `WW`. -/
theorem wcons (arg1 : Memref sig .tc .smem S56x7 .f32) (harg1 : arg1.IsWhole) (arg4 : Memref sig .tc .vmem S7168x896 .fp8e4m3) (harg4 : arg4.IsWhole)
   (x0 : Vec Ideal S56x7 .f32) (x3 : Vec Ideal S7168x896 .fp8e4m3) (o1 o2 : ℕ)
   (i3 : ∀ a, ![o1, o2] a + S128x128.size a ≤ S7168x896.size a) (P : FVec Ideal S128x128 .bf16) (L : List (View.Piece (Elt Ideal) S7168x896 .bf16))
   (h1 : o1 % 128 = 0) (h2 : o2 % 128 = 0)
   (hP : P = WT (View.readAt (Elt Ideal) arg1.view (Rect.unit (s := S56x7) ![o1 / 128, o2 / 128] S1x1.size (inb1 i3)).toLoadRect (harg1.unread x0) (Shape.Idx.first (by decide : 0 < S1x1.numel)))
     (View.readAt (Elt Ideal) arg4.view (Rect.unit (s := S7168x896) ![o1, o2] S128x128.size i3).toLoadRect (harg4.unread x3)))
   (hL : View.PiecesOf (WW x0 x3) L) :
   View.PiecesOf (WW x0 x3) (⟨Rect.unit (s := S7168x896) ![o1, o2] S128x128.size i3, P⟩ :: L) := by
  refine ⟨fun x => ?_, hL⟩
  subst hP
  exact wpiece arg1 harg1 arg4 harg4 x0 x3 o1 o2 (o1 / 128) (o2 / 128) (by omega) (by omega) _ _ i3 _ x

/-- What the first point leaves in the array. -/
theorem sout_A_A (c : Dev nD) (i : grid0.Coords) (arg1 : Memref sig .tc .smem S56x7 .f32) (harg1 : arg1.IsWhole) (arg2 : Memref sig .tc .vmem S512x7168 .fp8e4m3) (harg2 : arg2.IsWhole) (arg3 : Memref sig .tc .vmem S512x56 .f32) (harg3 : arg3.IsWhole) (arg4 : Memref sig .tc .vmem S7168x896 .fp8e4m3) (harg4 : arg4.IsWhole) (arg5 : Memref sig .tc .vmem S1x896 .bf16) (harg5 : arg5.IsWhole) (arg6 : Memref sig .tc .vmem S512x896 .fp8e4m3) (harg6 : arg6.IsWhole) (arg7 : Memref sig .tc .vmem S512x1 .f32) (harg7 : arg7.IsWhole) (arg8 : Memref sig .tc .vmem S7168x896 .bf16) (harg8 : arg8.IsWhole) (arg9 : Memref sig .tc .vmem S512x7168 .bf16) (harg9 : arg9.IsWhole) (hc0 : cond0_0 i)
    (x0 : Vec Ideal S56x7 .f32) (x1 : Vec Ideal S512x7168 .fp8e4m3) (x2 : Vec Ideal S512x56 .f32) (x3 : Vec Ideal S7168x896 .fp8e4m3) (x4 : Vec Ideal S1x896 .bf16) :
    sout0_A_0 c i arg1 harg1 arg2 harg2 arg3 harg3 arg4 harg4 arg5 harg5 arg6 harg6 arg7 harg7 arg8 harg8 arg9 harg9 hc0 x0 x1 x2 x3 x4 = WW x0 x3 := by
  funext y
  unfold sout0_A_0
  rw [View.read_writes_junk_eq_canon]
  refine View.canon_apply_of_pieces (WW x0 x3) _ ?_ y (scover0_A_0 c i arg1 harg1 arg2 harg2 arg3 harg3 arg4 harg4 arg5 harg5 arg6 harg6 arg7 harg7 arg8 harg8 arg9 harg9 hc0 x0 x1 x2 x3 x4 y)
  refine View.PiecesOf.mem ?_
  frame_open
  repeat (refine wcons arg1 harg1 arg4 harg4 x0 x3 _ _ _ _ _ ?_ ?_ ?_ ?_; exact rfl; exact rfl; exact rfl)
  exact trivial
end Cert.WeightScratch
end
-- ==== Proof.ActScratch.lean ====
/- The activations' scratch array: the 56 column groups the body stores into it are the blocks of ONE function of the
   point's activation block and scale block, so the load of the whole array reads that function. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ActScratch

open Idealize.ShloMosaic Idealize.ShloMosaic.Pipeline Cert.KernelIdeal Cert.KernelIdeal.Gen

/-- The scaled activations of one block of rows: every code times the scale of its row and group of 128 columns. -/
def XW (x1 : Vec Ideal S512x7168 .fp8e4m3) (x2 : Vec Ideal S512x56 .f32) : FVec Ideal S512x7168 .bf16 := fun i =>
  (x1 i : EReal) * x2 (ix2 (i 0) ⟨(i 1).val / 128, by have : (i 1).val < 7168 := (i 1).isLt; omega⟩)

/-- One column group as the body computes it. -/
def XT (g : ℕ) (h : Shape.Slices S512x56 ![0, g] S512x1) (s : Vec Ideal S512x56 .f32) (x : Vec Ideal S512x128 .fp8e4m3) : FVec Ideal S512x128 .bf16 :=
  shapeCast S512x128 (mulf (extf .bf16 (shapeCast S512x128 x shapeCasts_S512x128_S512x128) bitsLt_fp8e4m3_bf16)
    (broadcastTo S512x128 (extractStridedSlice S512x1 ![0, g] (truncf .bf16 (shapeCast S512x56 s shapeCasts_S512x56_S512x56) bitsLt_bf16_f32) h) broadcasts_S512x1_S512x128)) shapeCasts_S512x128_S512x128

theorem XT_apply (g : ℕ) (hg : g < 56) (h : Shape.Slices S512x56 ![0, g] S512x1) (s : Vec Ideal S512x56 .f32) (x : Vec Ideal S512x128 .fp8e4m3)
    (j : S512x128.Idx) : XT g h s x j = ((x j : EReal) * s (ix2 (j 0) ⟨g, hg⟩) : EReal) := by
  unfold XT
  pointwise

theorem inbS {o : ℕ} (i3 : ∀ a, ![0, o] a + S512x128.size a ≤ S512x7168.size a) : Shape.Slices S512x56 ![0, o / 128] S512x1 := by
  have a1 : o + 128 ≤ 7168 := i3 1
  refine ⟨rfl, fun a => ?_⟩
  match a with
  | ⟨0, _⟩ => exact Nat.le_refl 512
  | ⟨1, _⟩ => show o / 128 + 1 ≤ 56; omega

/-- One more column group: its payload is the body's (`XT`), so it is a block of `XW`. -/
theorem xcons (arg2 : Memref sig .tc .vmem S512x7168 .fp8e4m3) (harg2 : arg2.IsWhole) (arg3 : Memref sig .tc .vmem S512x56 .f32) (harg3 : arg3.IsWhole)
    (x1 : Vec Ideal S512x7168 .fp8e4m3) (x2 : Vec Ideal S512x56 .f32) (o : ℕ)
    (i3 : ∀ a, ![0, o] a + S512x128.size a ≤ S512x7168.size a) (P : FVec Ideal S512x128 .bf16) (L : List (View.Piece (Elt Ideal) S512x7168 .bf16))
    (h1 : o % 128 = 0)
    (hP : P = XT (o / 128) (inbS i3)
      (View.readAt (Elt Ideal) arg3.view (Rect.unit (s := S512x56) ![0, 0] S512x56.size inb_S512x56_S512x56_0_0).toLoadRect (harg3.unread x2))
      (View.readAt (Elt Ideal) arg2.view (Rect.unit (s := S512x7168) ![0, o] S512x128.size i3).toLoadRect (harg2.unread x1)))
    (hL : View.PiecesOf (XW x1 x2) L) :
    View.PiecesOf (XW x1 x2) (⟨Rect.unit (s := S512x7168) ![0, o] S512x128.size i3, P⟩ :: L) := by
  refine ⟨fun x => ?_, hL⟩
  subst hP
  have a1 : o + 128 ≤ 7168 := i3 1
  refine (XT_apply (o / 128) (by omega) _ _ _ x).trans ?_
  simp only [View.readAt_eq_ld, Memref.IsWhole.read_unread]
  unfold XW
  have e0 : ((Rect.unit (s := S512x7168) ![0, o] S512x128.size i3).emb x 0).val = 0 + 1 * (x 0).val := rfl
  have e1 : ((Rect.unit (s := S512x7168) ![0, o] S512x128.size i3).emb x 1).val = o + 1 * (x 1).val := rfl
  have l1 : (x 1).val < 128 := (x 1).isLt
  rw [View.ld_unit_zero (by funext a; match a with | ⟨0, _⟩ => rfl | ⟨1, _⟩ => rfl)]
  refine congrArg₂ (fun a b : EReal => a * b) rfl (congrArg x2 ?_)
  funext a; apply Fin.ext
  match a with
  | ⟨0, _⟩ => show (x 0).val = ((Rect.unit (s := S512x7168) ![0, o] S512x128.size i3).emb x 0).val; omega
  | ⟨1, _⟩ => show o / 128 = ((Rect.unit (s := S512x7168) ![0, o] S512x128.size i3).emb x 1).val / 128; omega

/-- The load of the whole array, after stores that are blocks of a function `G` and tile it, reads `G`. -/
theorem whole_read {S : Shape} {e : EltTy} (v : View sig .tc .vmem S e) (G : S.Idx → Elt Ideal e) (L : List (View.Piece (Elt Ideal) S e))
    (off : Fin S.rank → ℕ) (h0 : off = fun _ => 0) (inb : ∀ a, off a + S.size a ≤ S.size a) (hL : View.PiecesOf G L) (hc : ∀ y : S.Idx, ∃ p ∈ L, y ∈ p.1.set) :
    View.readCov v L (Rect.unit off S.size inb).toLoadRect = G := by
  rw [View.readCov_eq_canon_ld v L _ hc, View.ld_unit_zero h0]
  funext y
  exact View.canon_apply_of_pieces G L hL.mem y (hc y)

/-- Zero offsets, as the whole-array loads spell them. -/
theorem off0 : (![0, 0] : Fin 2 → ℕ) = fun _ => 0 := by
  funext a
  match a with
  | ⟨0, _⟩ => rfl
  | ⟨1, _⟩ => rfl

end Cert.ActScratch

end
-- ==== Proof.Block.lean ====
/- What one point of the grid leaves in its two result blocks, as functions of the scaled activations, the scaled weights
   and the bias. -/
module

public import proofs.«01_k».proof.Proof.WeightScratch
public import proofs.«01_k».proof.Proof.ActScratch

@[expose] public section

set_option maxRecDepth 16384

noncomputable section

namespace Cert.Block

open Idealize.ShloMosaic Idealize.ShloMosaic.Pipeline Cert.KernelIdeal Cert.KernelIdeal.Gen Cert.WeightScratch Cert.ActScratch

/-- The scale column of a block. -/
def SC (X : FVec Ideal S512x7168 .bf16) (W : FVec Ideal S7168x896 .bf16) (b : Vec Ideal S1x896 .bf16) : FVec Ideal S512x1 .f32 :=
  k0_pay577 (k0_pay569 X W b) (k0_pay570 X W b) (k0_pay574 (k0_pay569 X W b) k0_pay571 k0_pay572 k0_pay573)
    (k0_pay575 (k0_pay569 X W b) k0_pay571 k0_pay572 k0_pay573)

/-- The quantised block. -/
def YB (X : FVec Ideal S512x7168 .bf16) (W : FVec Ideal S7168x896 .bf16) (b : Vec Ideal S1x896 .bf16) : FVec Ideal S512x896 .fp8e4m3 :=
  k0_pay1 (k0_pay578 (k0_pay567 X W b) (k0_pay569 X W b) (k0_pay570 X W b) (k0_pay574 (k0_pay569 X W b) k0_pay571 k0_pay572 k0_pay573)
    (k0_pay575 (k0_pay569 X W b) k0_pay571 k0_pay572 k0_pay573)) k0_pay579

theorem out_B_6 (c : Dev nD) (i : grid0.Coords) (arg1 : Memref sig .tc .smem S56x7 .f32) (harg1 : arg1.IsWhole) (arg2 : Memref sig .tc .vmem S512x7168 .fp8e4m3) (harg2 : arg2.IsWhole) (arg3 : Memref sig .tc .vmem S512x56 .f32) (harg3 : arg3.IsWhole) (arg4 : Memref sig .tc .vmem S7168x896 .fp8e4m3) (harg4 : arg4.IsWhole) (arg5 : Memref sig .tc .vmem S1x896 .bf16) (harg5 : arg5.IsWhole) (arg6 : Memref sig .tc .vmem S512x896 .fp8e4m3) (harg6 : arg6.IsWhole) (arg7 : Memref sig .tc .vmem S512x1 .f32) (harg7 : arg7.IsWhole) (arg8 : Memref sig .tc .vmem S7168x896 .bf16) (harg8 : arg8.IsWhole) (arg9 : Memref sig .tc .vmem S512x7168 .bf16) (harg9 : arg9.IsWhole) (hc0 : ¬cond0_0 i)
    (x0 : Vec Ideal S56x7 .f32) (x1 : Vec Ideal S512x7168 .fp8e4m3) (x2 : Vec Ideal S512x56 .f32) (x3 : Vec Ideal S7168x896 .fp8e4m3) (x4 : Vec Ideal S1x896 .bf16) (xs0 : Vec Ideal S7168x896 .bf16) :
    out0_B_6 c i arg1 harg1 arg2 harg2 arg3 harg3 arg4 harg4 arg5 harg5 arg6 harg6 arg7 harg7 arg8 harg8 arg9 harg9 hc0 x0 x1 x2 x3 x4 xs0 = SC (XW x1 x2) xs0 x4 := by
  unfold out0_B_6
  rw [View.read_writes_junk_eq_canon]
  frame_open
  rw [whole_read arg9.view (XW x1 x2) _ _ off0 _
    (by repeat (refine xcons arg2 harg2 arg3 harg3 x1 x2 _ _ _ _ ?_ ?_ ?_; exact rfl; exact rfl)
        exact trivial)
    (View.cover_of_tiledL _ S512x128.size (by sl_kernel_rfl))]
  refine (View.canon_unit_zero off0 _ _).trans ?_
  simp only [View.readAt_eq_ld, Memref.IsWhole.read_unread]
  rw [View.ld_unit_zero off0 _ xs0, View.ld_unit_zero off0 _ x4]
  rfl

theorem out_B_5 (c : Dev nD) (i : grid0.Coords) (arg1 : Memref sig .tc .smem S56x7 .f32) (harg1 : arg1.IsWhole) (arg2 : Memref sig .tc .vmem S512x7168 .fp8e4m3) (harg2 : arg2.IsWhole) (arg3 : Memref sig .tc .vmem S512x56 .f32) (harg3 : arg3.IsWhole) (arg4 : Memref sig .tc .vmem S7168x896 .fp8e4m3) (harg4 : arg4.IsWhole) (arg5 : Memref sig .tc .vmem S1x896 .bf16) (harg5 : arg5.IsWhole) (arg6 : Memref sig .tc .vmem S512x896 .fp8e4m3) (harg6 : arg6.IsWhole) (arg7 : Memref sig .tc .vmem S512x1 .f32) (harg7 : arg7.IsWhole) (arg8 : Memref sig .tc .vmem S7168x896 .bf16) (harg8 : arg8.IsWhole) (arg9 : Memref sig .tc .vmem S512x7168 .bf16) (harg9 : arg9.IsWhole) (hc0 : ¬cond0_0 i)
    (x0 : Vec Ideal S56x7 .f32) (x1 : Vec Ideal S512x7168 .fp8e4m3) (x2 : Vec Ideal S512x56 .f32) (x3 : Vec Ideal S7168x896 .fp8e4m3) (x4 : Vec Ideal S1x896 .bf16) (xs0 : Vec Ideal S7168x896 .bf16) :
    out0_B_5 c i arg1 harg1 arg2 harg2 arg3 harg3 arg4 harg4 arg5 harg5 arg6 harg6 arg7 harg7 arg8 harg8 arg9 harg9 hc0 x0 x1 x2 x3 x4 xs0 = YB (XW x1 x2) xs0 x4 := by
  unfold out0_B_5
  rw [View.read_writes_junk_eq_canon]
  frame_open
  rw [whole_read arg9.view (XW x1 x2) _ _ off0 _
    (by repeat (refine xcons arg2 harg2 arg3 harg3 x1 x2 _ _ _ _ ?_ ?_ ?_; exact rfl; exact rfl)
        exact trivial)
    (View.cover_of_tiledL _ S512x128.size (by sl_kernel_rfl))]
  refine (View.canon_unit_zero off0 _ _).trans ?_
  simp only [View.readAt_eq_ld, Memref.IsWhole.read_unread]
  rw [View.ld_unit_zero off0 _ xs0, View.ld_unit_zero off0 _ x4]
  rfl

set_option maxHeartbeats 4000000 in
theorem out_A_6 (c : Dev nD) (i : grid0.Coords) (arg1 : Memref sig .tc .smem S56x7 .f32) (harg1 : arg1.IsWhole) (arg2 : Memref sig .tc .vmem S512x7168 .fp8e4m3) (harg2 : arg2.IsWhole) (arg3 : Memref sig .tc .vmem S512x56 .f32) (harg3 : arg3.IsWhole) (arg4 : Memref sig .tc .vmem S7168x896 .fp8e4m3) (harg4 : arg4.IsWhole) (arg5 : Memref sig .tc .vmem S1x896 .bf16) (harg5 : arg5.IsWhole) (arg6 : Memref sig .tc .vmem S512x896 .fp8e4m3) (harg6 : arg6.IsWhole) (arg7 : Memref sig .tc .vmem S512x1 .f32) (harg7 : arg7.IsWhole) (arg8 : Memref sig .tc .vmem S7168x896 .bf16) (harg8 : arg8.IsWhole) (arg9 : Memref sig .tc .vmem S512x7168 .bf16) (harg9 : arg9.IsWhole) (hc0 : cond0_0 i)
    (x0 : Vec Ideal S56x7 .f32) (x1 : Vec Ideal S512x7168 .fp8e4m3) (x2 : Vec Ideal S512x56 .f32) (x3 : Vec Ideal S7168x896 .fp8e4m3) (x4 : Vec Ideal S1x896 .bf16) :
    out0_A_6 c i arg1 harg1 arg2 harg2 arg3 harg3 arg4 harg4 arg5 harg5 arg6 harg6 arg7 harg7 arg8 harg8 arg9 harg9 hc0 x0 x1 x2 x3 x4 = SC (XW x1 x2) (WW x0 x3) x4 := by
  unfold out0_A_6
  rw [View.read_writes_junk_eq_canon]
  frame_open
  rw [whole_read arg9.view (XW x1 x2) _ _ off0 _
    (by repeat (refine xcons arg2 harg2 arg3 harg3 x1 x2 _ _ _ _ ?_ ?_ ?_; exact rfl; exact rfl)
        exact trivial)
    (View.cover_of_tiledL _ S512x128.size (by sl_kernel_rfl))]
  rw [whole_read arg8.view (WW x0 x3) _ _ off0 _
    (by repeat (refine wcons arg1 harg1 arg4 harg4 x0 x3 _ _ _ _ _ ?_ ?_ ?_ ?_; exact rfl; exact rfl; exact rfl)
        exact trivial)
    (View.cover_of_tiledL _ S128x128.size (by sl_kernel_rfl))]
  refine (View.canon_unit_zero off0 _ _).trans ?_
  simp only [View.readAt_eq_ld, Memref.IsWhole.read_unread]
  rw [View.ld_unit_zero off0 _ x4]
  rfl

set_option maxHeartbeats 4000000 in
theorem out_A_5 (c : Dev nD) (i : grid0.Coords) (arg1 : Memref sig .tc .smem S56x7 .f32) (harg1 : arg1.IsWhole) (arg2 : Memref sig .tc .vmem S512x7168 .fp8e4m3) (harg2 : arg2.IsWhole) (arg3 : Memref sig .tc .vmem S512x56 .f32) (harg3 : arg3.IsWhole) (arg4 : Memref sig .tc .vmem S7168x896 .fp8e4m3) (harg4 : arg4.IsWhole) (arg5 : Memref sig .tc .vmem S1x896 .bf16) (harg5 : arg5.IsWhole) (arg6 : Memref sig .tc .vmem S512x896 .fp8e4m3) (harg6 : arg6.IsWhole) (arg7 : Memref sig .tc .vmem S512x1 .f32) (harg7 : arg7.IsWhole) (arg8 : Memref sig .tc .vmem S7168x896 .bf16) (harg8 : arg8.IsWhole) (arg9 : Memref sig .tc .vmem S512x7168 .bf16) (harg9 : arg9.IsWhole) (hc0 : cond0_0 i)
    (x0 : Vec Ideal S56x7 .f32) (x1 : Vec Ideal S512x7168 .fp8e4m3) (x2 : Vec Ideal S512x56 .f32) (x3 : Vec Ideal S7168x896 .fp8e4m3) (x4 : Vec Ideal S1x896 .bf16) :
    out0_A_5 c i arg1 harg1 arg2 harg2 arg3 harg3 arg4 harg4 arg5 harg5 arg6 harg6 arg7 harg7 arg8 harg8 arg9 harg9 hc0 x0 x1 x2 x3 x4 = YB (XW x1 x2) (WW x0 x3) x4 := by
  unfold out0_A_5
  rw [View.read_writes_junk_eq_canon]
  frame_open
  rw [whole_read arg9.view (XW x1 x2) _ _ off0 _
    (by repeat (refine xcons arg2 harg2 arg3 harg3 x1 x2 _ _ _ _ ?_ ?_ ?_; exact rfl; exact rfl)
        exact trivial)
    (View.cover_of_tiledL _ S512x128.size (by sl_kernel_rfl))]
  rw [whole_read arg8.view (WW x0 x3) _ _ off0 _
    (by repeat (refine wcons arg1 harg1 arg4 harg4 x0 x3 _ _ _ _ _ ?_ ?_ ?_ ?_; exact rfl; exact rfl; exact rfl)
        exact trivial)
    (View.cover_of_tiledL _ S128x128.size (by sl_kernel_rfl))]
  refine (View.canon_unit_zero off0 _ _).trans ?_
  simp only [View.readAt_eq_ld, Memref.IsWhole.read_unread]
  rw [View.ld_unit_zero off0 _ x4]
  rfl

end Cert.Block

end
-- ==== Proof.Exponent.lean ====
/- The power-of-two scale of the quantiser, at the ideal instance: the exponent field that the kernel finds by
   bisection is the number of powers of two `2 ^ -126 … 2 ^ 125` that the value reaches, and the two scale words that
   the kernel assembles from it are the two powers that the reference takes by `exp2`. -/
module

public import Idealize.ShloMosaic.PureOps.Ideal
public import Idealize.ShloMosaic.PureOps.Ideal.Laws
public import Idealize.ShloMosaic.Lib.IdealHost

@[expose] public section

noncomputable section

namespace Cert.Exponent

open Idealize.ShloMosaic

/-- The f32 word whose exponent field is `n`, all its other bits clear, as an extended real. -/
def pw (n : ℕ) : EReal := Ideal.ofBits .f32 (BitVec.ofNat 32 n <<< 23)

theorem word_parts : ∀ n : Fin 256,
    (((BitVec.ofNat 32 n.val <<< 23).extractLsb' (8 + 23) 1 == 1#1) = false)
    ∧ ((BitVec.ofNat 32 n.val <<< 23).extractLsb' 23 8).toNat = n.val
    ∧ ((BitVec.ofNat 32 n.val <<< 23).extractLsb' 0 23).toNat = 0 := by decide +kernel

theorem pw_def (n : ℕ) : pw n = Ideal.ieee 8 23 (BitVec.ofNat 32 n <<< 23) := by
  simp only [pw, Ideal.ofBits]

theorem pw_zero : pw 0 = 0 := by
  obtain ⟨h1, h2, h3⟩ := word_parts 0
  simp only [Fin.val_zero] at h1 h2 h3
  rw [pw_def]
  unfold Ideal.ieee
  simp only [h1, h2, h3]
  norm_num

theorem pw_top : pw 255 = ⊤ := by
  obtain ⟨h1, h2, h3⟩ := word_parts 255
  rw [pw_def]
  change BitVec.toNat _ = 255 at h2
  unfold Ideal.ieee
  simp only [h1, h2, h3]
  simp

/-- A normal field `n` is the power `2 ^ (n - 127)`. -/
theorem pw_normal (n : ℕ) (h1 : 1 ≤ n) (h2 : n ≤ 254) : pw n = (((2 : ℝ) ^ ((n : ℤ) - 127) : ℝ) : EReal) := by
  obtain ⟨g1, g2, g3⟩ := word_parts ⟨n, by omega⟩
  rw [pw_def]
  simp only at g1 g2 g3
  unfold Ideal.ieee
  simp only [g1, g2, g3]
  rw [if_neg (by norm_num; omega), if_neg (by omega)]
  rw [EReal.coe_eq_coe_iff]
  have : (n : ℤ) - 127 = 23 + ((n : ℤ) - (2 ^ (8 - 1) - 1) - (23 : ℕ)) := by norm_num
  rw [this, zpow_add₀ (by norm_num : (2 : ℝ) ≠ 0)]
  norm_num

theorem pw_mono {n k : ℕ} (h : n ≤ k) (hk : k ≤ 255) : pw n ≤ pw k := by
  rcases Nat.eq_zero_or_pos n with rfl | hn
  · rw [pw_zero]
    rcases Nat.eq_zero_or_pos k with rfl | hk0
    · exact (pw_zero).ge
    · rcases Nat.lt_or_ge k 255 with h' | h'
      · rw [pw_normal k hk0 (by omega)]
        exact EReal.coe_nonneg.mpr (by positivity)
      · rw [show k = 255 by omega, pw_top]; exact le_top
  · rcases Nat.lt_or_ge k 255 with h' | h'
    · rw [pw_normal k (by omega) (by omega), pw_normal n hn (by omega)]
      exact EReal.coe_le_coe_iff.mpr (zpow_le_zpow_right₀ (by norm_num) (by omega))
    · rw [show k = 255 by omega, pw_top]; exact le_top

/-! ### The bisection -/

/-- One step of the bisection, on numbers: raise the field by `s` unless the value stays below the raised power. -/
def stepN (v : EReal) (s n : ℕ) : ℕ := if v < pw (n + s) then n else n + s

/-- The field after the eight steps. -/
def field (v : EReal) : ℕ :=
  stepN v 1 (stepN v 2 (stepN v 4 (stepN v 8 (stepN v 16 (stepN v 32 (stepN v 64 (stepN v 128 0)))))))

/-- What holds before a step that still has `s` fields to decide among: the value reaches the power of `n` and of no
    field from `n + s` on. -/
def Inv (v : EReal) (n s : ℕ) : Prop :=
  n + s ≤ 256 ∧ (n = 0 ∨ pw n ≤ v) ∧ ∀ k, n + s ≤ k → k ≤ 255 → v < pw k

theorem inv_step {v : EReal} {n s : ℕ} (hs : 1 ≤ s) (h : Inv v n (2 * s)) : Inv v (stepN v s n) s := by
  obtain ⟨h1, h2, h3⟩ := h
  unfold stepN
  split
  case isTrue hv => exact ⟨by omega, h2, fun k hk hk' => lt_of_lt_of_le hv (pw_mono hk hk')⟩
  case isFalse hv => exact ⟨by omega, .inr (not_lt.mp hv), fun k hk hk' => h3 k (by omega) hk'⟩

theorem inv_field (v : EReal) : Inv v (field v) 1 := by
  have h0 : Inv v 0 (2 * 128) := ⟨by omega, .inl rfl, fun k hk hk' => by omega⟩
  exact inv_step (by omega) (inv_step (by omega) (inv_step (by omega) (inv_step (by omega) (inv_step (by omega)
    (inv_step (by omega) (inv_step (by omega) (inv_step (by omega) h0)))))))

theorem field_le (v : EReal) : field v ≤ 255 := by have := (inv_field v).1; omega

/-- The value reaches the power of field `k` exactly when `k` is at most the field found. -/
theorem pw_le_iff (v : EReal) {k : ℕ} (h1 : 1 ≤ k) (h2 : k ≤ 255) : pw k ≤ v ↔ k ≤ field v := by
  obtain ⟨_, g2, g3⟩ := inv_field v
  constructor
  · intro h
    by_contra hk
    exact absurd (g3 k (by omega) h2) (not_lt.mpr h)
  · intro h
    rcases g2 with g2 | g2
    · omega
    · exact (pw_mono h (field_le v)).trans g2

/-- The number of powers reached among the fields `1 … 252`. -/
def count (v : EReal) : ℕ := min (field v) 252

theorem sum_reached (v : EReal) :
    ∑ i : Fin 252, (if pw (i.val + 1) ≤ v then (1 : EReal) else 0) = ((count v : ℕ) : EReal) := by
  have : ∀ i : Fin 252, (if pw (i.val + 1) ≤ v then (1 : EReal) else 0) = if i.val < count v then 1 else 0 := by
    intro i
    have hi := i.isLt
    simp only [pw_le_iff v (k := i.val + 1) (by omega) (by omega), count]
    congr 1
    simp only [eq_iff_iff]; omega
  rw [Finset.sum_congr rfl fun i _ => this i, Finset.sum_boole]
  congr 1
  have hc : count v ≤ 252 := min_le_right _ _
  rw [Fin.card_filter_val_lt]
  exact min_eq_right hc

/-! ### The kernel's words -/

/-- One step of the bisection as the kernel runs it, on 32-bit words. -/
def stepW (v : EReal) (s n : BitVec 32) : BitVec 32 :=
  Scalar.select (Ideal.cmp .olt v (Ideal.ofBits .f32 (IntOp.shli .vector (n + s) 23#32))) n (n + s)

theorem stepW_ofNat (v : EReal) (s n : ℕ) : stepW v (BitVec.ofNat 32 s) (BitVec.ofNat 32 n) = BitVec.ofNat 32 (stepN v s n) := by
  unfold stepW stepN Scalar.select
  have : IntOp.shli .vector (BitVec.ofNat 32 n + BitVec.ofNat 32 s) 23#32 = BitVec.ofNat 32 (n + s) <<< 23 := by
    rw [← BitVec.ofNat_add]; rfl
  rw [this]
  show (if Ideal.cmp .olt v (pw (n + s)) = 1 then _ else _) = _
  by_cases h : v < pw (n + s)
  · simp [Ideal.cmp, h]
  · simp [Ideal.cmp, h, BitVec.ofNat_add]

/-- The bisection as the kernel runs it. -/
def fieldW (v : EReal) : BitVec 32 :=
  stepW v 1#32 (stepW v 2#32 (stepW v 4#32 (stepW v 8#32 (stepW v 16#32 (stepW v 32#32 (stepW v 64#32 (stepW v 128#32 0#32)))))))

theorem fieldW_eq (v : EReal) : fieldW v = BitVec.ofNat 32 (field v) := by
  unfold fieldW field
  simp only [stepW_ofNat]

/-- The kernel's exponent of a row whose largest magnitude is `a` and whose scaled magnitude is `v`. -/
def eW (a v : EReal) : BitVec 32 :=
  Scalar.select (Ideal.cmp .oeq a 0) 0#32
    (Scalar.select (Ideal.cmp .oeq (v * 0) 0) (IntOp.minsi (fieldW v) 252#32) 255#32 - 126#32)

/-- The reference's exponent of that row. -/
def eR (a v : EReal) : EReal :=
  Scalar.select (Ideal.cmp .oeq a 0) 0 (((count v : ℕ) : EReal) - ((126 : ℝ) : EReal))

theorem words : ∀ n : Fin 256,
    IntOp.shli .vector (IntOp.minsi (BitVec.ofNat 32 n.val) 252#32 - 126#32 + 127#32) 23#32 = BitVec.ofNat 32 (min n.val 252 + 1) <<< 23
    ∧ IntOp.shli .vector (127#32 - (IntOp.minsi (BitVec.ofNat 32 n.val) 252#32 - 126#32)) 23#32 = BitVec.ofNat 32 (253 - min n.val 252) <<< 23 := by
  decide +kernel

theorem exp2_coe (r : ℝ) : Ideal.exp2 (r : EReal) = ((Real.rpow 2 r : ℝ) : EReal) := rfl

theorem pw_exp2 (n : ℕ) (h1 : 1 ≤ n) (h2 : n ≤ 254) : pw n = Ideal.exp2 (((n : ℝ) - 127 : ℝ) : EReal) := by
  rw [pw_normal n h1 h2, exp2_coe]
  congr 1
  have : ((n : ℝ) - 127) = (((n : ℤ) - 127 : ℤ) : ℝ) := by push_cast; ring
  rw [this]
  exact (Real.rpow_intCast 2 _).symm

theorem eW_of_ne (a v : EReal) (ha : a ≠ 0) : eW a v = IntOp.minsi (BitVec.ofNat 32 (field v)) 252#32 - 126#32 := by
  simp [eW, Scalar.select, Ideal.cmp, ha, fieldW_eq]

theorem eW_zero (v : EReal) : eW 0 v = 0#32 := by simp [eW, Scalar.select, Ideal.cmp]

theorem eR_of_ne (a v : EReal) (ha : a ≠ 0) : eR a v = (((count v : ℝ) - 126 : ℝ) : EReal) := by
  simp [eR, Scalar.select, Ideal.cmp, ha]

theorem eR_zero (v : EReal) : eR 0 v = ((0 : ℝ) : EReal) := by simp [eR, Scalar.select, Ideal.cmp]

/-- The kernel's scale word is the reference's power of two. -/
theorem scale_eq (a v : EReal) :
    Ideal.ofBits .f32 (IntOp.shli .vector (eW a v + 127#32) 23#32) = Ideal.exp2 (eR a v) := by
  by_cases ha : a = 0
  · subst ha
    rw [eW_zero, eR_zero]
    have : IntOp.shli .vector (0#32 + 127#32) 23#32 = BitVec.ofNat 32 127 <<< 23 := by decide +kernel
    rw [this]
    show pw 127 = _
    rw [pw_exp2 127 (by omega) (by omega)]
    norm_num
  · rw [eW_of_ne a v ha, eR_of_ne a v ha]
    rw [(words ⟨field v, by have := field_le v; omega⟩).1]
    show pw (count v + 1) = _
    have : count v ≤ 252 := min_le_right _ _
    rw [pw_exp2 _ (by omega) (by omega)]
    congr 2; push_cast; ring

/-- The kernel's word for the inverse scale is the reference's power of two. -/
theorem inv_eq (a v : EReal) :
    Ideal.ofBits .f32 (IntOp.shli .vector (127#32 - eW a v) 23#32) = Ideal.exp2 (0 - eR a v) := by
  by_cases ha : a = 0
  · subst ha
    rw [eW_zero, eR_zero]
    have : IntOp.shli .vector (127#32 - 0#32) 23#32 = BitVec.ofNat 32 127 <<< 23 := by decide +kernel
    rw [this]
    show pw 127 = _
    rw [pw_exp2 127 (by omega) (by omega)]
    norm_num
  · rw [eW_of_ne a v ha, eR_of_ne a v ha]
    rw [(words ⟨field v, by have := field_le v; omega⟩).2]
    show pw (253 - count v) = _
    have : count v ≤ 252 := min_le_right _ _
    rw [pw_exp2 _ (by omega) (by omega), zero_sub, ← EReal.coe_neg]
    congr 2; rw [Nat.cast_sub (by omega)]; push_cast; ring

end Cert.Exponent

end
-- ==== Proof.Layer.lean ====
module

public import proofs.«01_k».proof.Proof.Exponent
public import Idealize.ShloMosaic.Lib.IdealHost

@[expose] public section

set_option maxRecDepth 16384

noncomputable section

/-! One row of the layer's result in plain mathematics: the activation of one number, the largest
    magnitude of a row, the row's scale as a power of two, and the row's quantised values. Both
    programs are shown to compute these functions. -/

namespace Cert.Layer

open Idealize.ShloMosaic Cert.Exponent

/-- Gaussian error linear unit of one number: half of it, times one plus the error function of it
    over the square root of two. -/
def gelu (u : EReal) : EReal :=
  Ideal.ofBits .f32 0x3F000000#32 * u * (1 + Ideal.erf (u * Ideal.ofBits .f32 0x3F3504F3#32))

/-- The activation with the complementary error function of the negated number, as the reference
    writes it. -/
theorem gelu_erfc (u : EReal) :
    Ideal.ofBits .f32 0x3F000000#32 * u *
      (1 - Ideal.erf ((0 - u) * Ideal.ofBits .f32 0x3F3504F3#32)) = gelu u := by
  unfold gelu
  rw [zero_sub, EReal.neg_mul, Ideal.erf_neg, sub_eq_add_neg, neg_neg]

/-- The largest magnitude in a row. -/
def amax (h : Fin 896 → EReal) : EReal :=
  Finset.univ.fold max (Ideal.ofBits .f32 0xFF800000#32) fun o => FloatOps.absf (F := Ideal) (φ := .f32) (h o)

/-- The exponent of a row's scale. -/
def ex (h : Fin 896 → EReal) : EReal := eR (amax h) (amax h * Ideal.ofBits .f32 0x3B124925#32)

/-- A row's scale. -/
def scale (h : Fin 896 → EReal) : EReal := Ideal.exp2 (ex h)

/-- A row's value divided by the row's scale, kept within the range of the result's format. -/
def quant (h : Fin 896 → EReal) (o : Fin 896) : EReal :=
  min (Ideal.ofBits .f32 0x43E00000#32) (max (Ideal.ofBits .f32 0xC3E00000#32) (h o * Ideal.exp2 (0 - ex h)))

theorem ofBits_126 : Ideal.ofBits .f32 0x42FC0000#32 = ((126 : ℝ) : EReal) := by
  simp [Ideal.ofBits, Ideal.ieee, -EReal.coe_mul]; norm_num

/-- The power of two in lane `k` of the reference's comparison. -/
theorem lane_pow (k : Fin 252) :
    Ideal.exp2 (((((BitVec.ofNat 32 k.val).toInt : ℤ) : ℝ) : EReal) - Ideal.ofBits .f32 0x42FC0000#32) = pw (k.val + 1) := by
  have hk := k.isLt
  rw [ofBits_126, ← EReal.coe_sub, pw_exp2 (k.val + 1) (by omega) (by omega)]
  have : (BitVec.ofNat 32 k.val).toInt = (k.val : ℤ) := by
    rw [BitVec.toInt_eq_toNat_cond, BitVec.toNat_ofNat, Nat.mod_eq_of_lt (by omega)]
    rw [if_pos (by omega)]
  rw [this]
  congr 2
  push_cast
  ring

/-- A comparison's bit, read as a number. -/
theorem lane_bit (p : Prop) [Decidable p] :
    ((((BitVec.setWidth 32 (BitVec.ofBool (decide p))).toInt : ℤ) : ℝ) : EReal) = if p then 1 else 0 := by
  by_cases h : p <;> simp [h]

end Cert.Layer

end
-- ==== Proof.KernelRow.lean ====
module

public import proofs.«01_k».proof.Proof.Block
public import proofs.«01_k».proof.Proof.Layer
public import Idealize.ShloMosaic.Lib.Pointwise.Sums

@[expose] public section

set_option maxRecDepth 16384

noncomputable section

/-! The kernel's block of results, read row by row. -/

namespace Cert.KernelRow

open Idealize.ShloMosaic Cert.KernelIdeal Cert.KernelIdeal.Gen Cert.Block Cert.Exponent Cert.Layer

/-- One step of the search for the exponent, on a column of numbers. -/
def stepV (v : FVec Ideal S512x1 .f32) (s : BitVec 32) (n : IVec S512x1 32) : IVec S512x1 32 :=
  select (cmpf .olt v (bitcastToFloat .f32 (shli (addi n (broadcast S512x1 s)) (broadcast S512x1 23#32)))) n
    (addi n (broadcast S512x1 s))

theorem stepV_apply (v : FVec Ideal S512x1 .f32) (s : BitVec 32) (n : IVec S512x1 32) (j : S512x1.Idx) :
    stepV v s n j = stepW (v j) s (n j) := rfl

/-- The first seven steps. -/
def sevenV (v : FVec Ideal S512x1 .f32) : IVec S512x1 32 :=
  stepV v 2#32 (stepV v 4#32 (stepV v 8#32 (stepV v 16#32 (stepV v 32#32 (stepV v 64#32
    (stepV v 128#32 (broadcast S512x1 0#32)))))))

theorem steps (v : FVec Ideal S512x1 .f32) : k0_pay574 v k0_pay571 k0_pay572 k0_pay573 = sevenV v := by
  unfold k0_pay574 k0_pay573 k0_pay572 k0_pay571 sevenV
  rfl

theorem pay575_eq (v : FVec Ideal S512x1 .f32) : k0_pay575 v k0_pay571 k0_pay572 k0_pay573 =
    addi (k0_pay574 v k0_pay571 k0_pay572 k0_pay573) (broadcast S512x1 1#32) := rfl

theorem eight (v : FVec Ideal S512x1 .f32) (j : S512x1.Idx) : stepV v 1#32 (sevenV v) j = fieldW (v j) := by
  unfold sevenV fieldW
  simp only [stepV_apply]
  rfl

theorem last (v a : FVec Ideal S512x1 .f32) (n : IVec S512x1 32) (j : S512x1.Idx) :
    k0_pay576 v (cmpf .oeq a (broadcast S512x1 (Scalar.ofBits .f32 0x00000000#32))) n (addi n (broadcast S512x1 1#32)) j =
    Scalar.select (Ideal.cmp .oeq (a j) (Ideal.ofBits .f32 0x00000000#32)) 0#32
      (Scalar.select (Ideal.cmp .oeq (v j * Ideal.ofBits .f32 0x00000000#32) (Ideal.ofBits .f32 0x00000000#32))
        (IntOp.minsi (stepV v 1#32 n j) 252#32) 255#32 - 126#32) := by
  unfold k0_pay576 stepV
  rfl

/-- The exponent word of a row. -/
theorem e_apply (v a : FVec Ideal S512x1 .f32) (j : S512x1.Idx) :
    k0_pay576 v (cmpf .oeq a (broadcast S512x1 (Scalar.ofBits .f32 0x00000000#32)))
      (k0_pay574 v k0_pay571 k0_pay572 k0_pay573) (k0_pay575 v k0_pay571 k0_pay572 k0_pay573) j = eW (a j) (v j) := by
  rw [pay575_eq, steps, last, eight, Ideal.ofBits_zero_f32]
  rfl

variable (X : FVec Ideal S512x7168 .bf16) (W : FVec Ideal S7168x896 .bf16) (b : Vec Ideal S1x896 .bf16)

/-- The activations of one row of a block. -/
def row (r : Fin 512) (o : Fin 896) : EReal := gelu (∑ d, X (ix2 r d) * W (ix2 d o) + b (ix2 0 o))

theorem h_apply (r : Fin 512) (o : Fin 896) : k0_pay567 X W b (ix2 r o) = row X W b r o := by
  unfold k0_pay567
  pointwise
  rfl

theorem a_apply (r : Fin 512) : k0_pay568 X W b (ix2 r 0) = amax (row X W b r) := by
  unfold k0_pay568
  pointwise
  simp only [h_apply]
  rfl

theorem v_apply (r : Fin 512) : k0_pay569 X W b (ix2 r 0) = amax (row X W b r) * Ideal.ofBits .f32 0x3B124925#32 := by
  rw [← a_apply]
  rfl

theorem pay570_eq : k0_pay570 X W b =
    cmpf .oeq (k0_pay568 X W b) (broadcast S512x1 (Scalar.ofBits .f32 0x00000000#32)) := rfl

theorem s_apply (v : FVec Ideal S512x1 .f32) (z : IVec S512x1 1) (n n' : IVec S512x1 32) (j : S512x1.Idx) :
    k0_pay577 v z n n' j = Ideal.ofBits .f32 (IntOp.shli .vector (k0_pay576 v z n n' j + 127#32) 23#32) := by
  unfold k0_pay577
  rfl

theorem y_apply (h : FVec Ideal S512x896 .f32) (v : FVec Ideal S512x1 .f32) (z : IVec S512x1 1) (n n' : IVec S512x1 32)
    (r : Fin 512) (o : Fin 896) :
    k0_pay1 (k0_pay578 h v z n n') k0_pay579 (ix2 r o) =
      min (Ideal.ofBits .f32 0x43E00000#32) (max (Ideal.ofBits .f32 0xC3E00000#32)
        (h (ix2 r o) * Ideal.ofBits .f32 (IntOp.shli .vector (127#32 - k0_pay576 v z n n' (ix2 r 0)) 23#32))) := by
  unfold k0_pay1 k0_pay579 k0_pay578
  pointwise
  rfl

/-- The block's scale of row `r`. -/
theorem SC_apply (r : Fin 512) : SC X W b (ix2 r 0) = scale (row X W b r) := by
  unfold SC
  rw [s_apply, pay570_eq, e_apply, scale_eq, a_apply, v_apply]
  rfl

/-- The block's quantised value in row `r` and column `o`. -/
theorem YB_apply (r : Fin 512) (o : Fin 896) : YB X W b (ix2 r o) = quant (row X W b r) o := by
  unfold YB
  rw [y_apply, pay570_eq, e_apply, inv_eq, a_apply, v_apply, h_apply]
  rfl

end Cert.KernelRow

end
-- ==== Proof.KernelFinal.lean ====
/- The kernel's two result arrays at an index, as functions of the arrays its pallas_call reads: the weights' scratch
   array keeps the scaled weights from the first point on, every point's blocks are its rows of the layer, and the
   points' blocks tile the arrays. -/
module

public import proofs.«01_k».proof.Proof.KernelRow
public import proofs.«01_k».proof.Proof.Gen.KernelIdeal.Value

@[expose] public section

set_option maxRecDepth 16384

noncomputable section

namespace Cert.KernelFinal

open Idealize.ShloMosaic Idealize.ShloMosaic.TcCoe Cert.KernelIdeal Cert.KernelIdeal.Gen Cert.KernelIdeal.Value
  Cert.Block Cert.ActScratch Cert.WeightScratch Cert.KernelRow Cert.Layer

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])

theorem blk0 (t : Fin cfg0.N) : iblk m c 0 t = V m c main_arg3 := by
  have e0 : win0_0.index t 0 = 0 := congrFun (idx0 t) 0
  have e1 : win0_0.index t 1 = 0 := congrFun (idx0 t) 1
  funext j
  show V m c main_arg3 ((win0_0.blk t).view.emb j) = _
  refine congrArg _ ?_
  funext a; apply Fin.ext
  match a with
  | ⟨0, _⟩ => show win0_0.index t 0 * 56 + 1 * (j 0).val = (j 0).val; omega
  | ⟨1, _⟩ => show win0_0.index t 1 * 7 + 1 * (j 1).val = (j 1).val; omega

theorem idx3 : ∀ t : Fin cfg0.N, win0_3.index t = ![0, 0] := (by decide +kernel : ∀ t : Fin grid0.N, win0_3.index t = ![0, 0])

theorem blk3 (t : Fin cfg0.N) : iblk m c 3 t = V m c main_arg2 := by
  have e0 : win0_3.index t 0 = 0 := congrFun (idx3 t) 0
  have e1 : win0_3.index t 1 = 0 := congrFun (idx3 t) 1
  funext j
  show V m c main_arg2 ((win0_3.blk t).view.emb j) = _
  refine congrArg _ ?_
  funext a; apply Fin.ext
  match a with
  | ⟨0, _⟩ => show win0_3.index t 0 * 7168 + 1 * (j 0).val = (j 0).val; omega
  | ⟨1, _⟩ => show win0_3.index t 1 * 896 + 1 * (j 1).val = (j 1).val; omega

theorem idx4 : ∀ t : Fin cfg0.N, win0_4.index t = ![0, 0] := (by decide +kernel : ∀ t : Fin grid0.N, win0_4.index t = ![0, 0])

theorem blk4 (t : Fin cfg0.N) : iblk m c 4 t = V m c main_v2 := by
  have e0 : win0_4.index t 0 = 0 := congrFun (idx4 t) 0
  have e1 : win0_4.index t 1 = 0 := congrFun (idx4 t) 1
  funext j
  show V m c main_v2 ((win0_4.blk t).view.emb j) = _
  refine congrArg _ ?_
  funext a; apply Fin.ext
  match a with
  | ⟨0, _⟩ => show win0_4.index t 0 * 1 + 1 * (j 0).val = (j 0).val; omega
  | ⟨1, _⟩ => show win0_4.index t 1 * 896 + 1 * (j 1).val = (j 1).val; omega

theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])

/-- Point `t` reads 512 rows of the activations' codes. -/
theorem blk1 (t : Fin cfg0.N) (r : Fin 512) (d : Fin 7168) (h : 512 * t.val + r.val < 32768) :
    (iblk m c 1 t : Vec Ideal S512x7168 .fp8e4m3) (ix2 r d) = (V m c main_v0 : Vec Ideal S32768x7168 .fp8e4m3) (ix2 ⟨512 * t.val + r.val, h⟩ d) := by
  have e0 : win0_1.index t 0 = t.val := congrFun (idx1 t) 0
  have e1 : win0_1.index t 1 = 0 := congrFun (idx1 t) 1
  show (V m c main_v0 : Vec Ideal S32768x7168 .fp8e4m3) ((win0_1.blk t).view.emb (ix2 r d)) = _
  refine congrArg _ ?_
  funext a; apply Fin.ext
  match a with
  | ⟨0, _⟩ => show win0_1.index t 0 * 512 + 1 * r.val = 512 * t.val + r.val; omega
  | ⟨1, _⟩ => show win0_1.index t 1 * 7168 + 1 * d.val = d.val; omega

/-- Point `t` reads 512 rows of the activations' scales. -/
theorem blk2 (t : Fin cfg0.N) (r : Fin 512) (g : Fin 56) (h : 512 * t.val + r.val < 32768) :
    (iblk m c 2 t : Vec Ideal S512x56 .f32) (ix2 r g) = (V m c main_v1 : Vec Ideal S32768x56 .f32) (ix2 ⟨512 * t.val + r.val, h⟩ g) := by
  have e0 : win0_2.index t 0 = t.val := congrFun (idx2 t) 0
  have e1 : win0_2.index t 1 = 0 := congrFun (idx2 t) 1
  show (V m c main_v1 : Vec Ideal S32768x56 .f32) ((win0_2.blk t).view.emb (ix2 r g)) = _
  refine congrArg _ ?_
  funext a; apply Fin.ext
  match a with
  | ⟨0, _⟩ => show win0_2.index t 0 * 512 + 1 * r.val = 512 * t.val + r.val; omega
  | ⟨1, _⟩ => show win0_2.index t 1 * 56 + 1 * g.val = g.val; omega

/-- After every point the weights' scratch array holds the scaled weights. -/
theorem scratch : ∀ (n : ℕ) (h : n < cfg0.N), (outsAt0 m c n h).2.2 = WW (V m c main_arg3) (V m c main_arg2)
  | 0, h => by
    rw [outsAt0_A m c ⟨0, h⟩ (Nat.zero_mod _)]
    dsimp only
    rw [sout_A_A, blk0, blk3]
  | n + 1, h => by
    have hN := lt_of_lt_of_eq h (show cfg0.N = 64 from N_0)
    rw [outsAt0_B m c ⟨n + 1, h⟩ (by dsimp only; omega)]
    dsimp only
    unfold sout0_B_0
    exact scratch n _

/-- The quantised block that point `t` leaves. -/
theorem out5 (t : Fin cfg0.N) : (outsAt0 m c t.val t.isLt).1 =
    YB (XW (iblk m c 1 t) (iblk m c 2 t)) (WW (V m c main_arg3) (V m c main_arg2)) (V m c main_v2) := by
  by_cases h : t.val % 64 = 0
  · rw [outsAt0_A m c t h]
    dsimp only
    rw [out_A_5, blk0, blk3, blk4]
  · rw [outsAt0_B m c t h]
    dsimp only
    rw [out_B_5, scratch, blk4]

/-- The scale column that point `t` leaves. -/
theorem out6 (t : Fin cfg0.N) : (outsAt0 m c t.val t.isLt).2.1 =
    SC (XW (iblk m c 1 t) (iblk m c 2 t)) (WW (V m c main_arg3) (V m c main_arg2)) (V m c main_v2) := by
  by_cases h : t.val % 64 = 0
  · rw [outsAt0_A m c t h]
    dsimp only
    rw [out_A_6, blk0, blk3, blk4]
  · rw [outsAt0_B m c t h]
    dsimp only
    rw [out_B_6, scratch, blk4]

/-- The activations of one row, from the codes and scales of the activations and of the weights, and the bias. -/
def lrow (x : Vec Ideal S32768x7168 .fp8e4m3) (xs : Vec Ideal S32768x56 .f32) (w : Vec Ideal S7168x896 .fp8e4m3)
    (ws : Vec Ideal S56x7 .f32) (b : Vec Ideal S1x896 .bf16) (r : Fin 32768) (o : Fin 896) : EReal :=
  gelu (∑ d : Fin 7168, x (ix2 r d) * xs (ix2 r ⟨d.val / 128, by omega⟩) *
      (w (ix2 d o) * ws (ix2 ⟨d.val / 128, by omega⟩ ⟨o.val / 128, by omega⟩)) + b (ix2 0 o))

/-- The activations of one row of the kernel's arrays. -/
def krow (r : Fin 32768) : Fin 896 → EReal :=
  lrow (V m c main_v0) (V m c main_v1) (V m c main_arg2) (V m c main_arg3) (V m c main_v2) r

/-- Row `r` of the block of point `t` is row `512 t + r` of the whole array. -/
theorem row_eq (t : Fin cfg0.N) (r : Fin 512) (h : 512 * t.val + r.val < 32768) :
    row (XW (iblk m c 1 t) (iblk m c 2 t)) (WW (V m c main_arg3) (V m c main_arg2)) (V m c main_v2) r = krow m c ⟨512 * t.val + r.val, h⟩ := by
  funext o
  unfold row krow lrow
  refine congrArg (fun s : EReal => gelu (s + _)) (Finset.sum_congr rfl fun d _ => ?_)
  refine congrArg₂ (fun a b : EReal => a * b) (congrArg₂ (fun a b : EReal => a * b) (blk1 m c t r d h) ?_) rfl
  exact blk2 m c t r _ h

/-- The first result array at an index. -/
theorem G5_apply (r : Fin 32768) (o : Fin 896) :
    (G5 m c : Vec Ideal S32768x896 .fp8e4m3) (ix2 r o) = quant (krow m c r) o := by
  have hN : cfg0.N = 64 := N_0
  have hp : pt5Of (ix2 r o) = r.val / 512 := by
    show 1 * (r.val / 512 - 0) + 1 * (o.val / 896 - 0) = _
    omega
  have hlt : r.val / 512 < cfg0.N := by omega
  have hl : loc5Of (ix2 r o) = ix2 ⟨r.val % 512, by omega⟩ o := by
    funext a; apply Fin.ext
    match a with
    | ⟨0, _⟩ => rfl
    | ⟨1, _⟩ => show o.val % 896 = o.val; omega
  unfold G5
  rw [dif_pos (by rw [hp]; exact hlt), fold0_congr m c _ _ _ (by omega) hp, hl, ← outsAt0_sweep m c _ hlt]
  rw [out5 m c ⟨r.val / 512, hlt⟩, YB_apply, row_eq m c ⟨r.val / 512, hlt⟩ ⟨r.val % 512, by omega⟩ (by dsimp only; omega)]
  congr 2
  apply Fin.ext
  show 512 * (r.val / 512) + r.val % 512 = r.val
  omega

/-- The second result array at an index. -/
theorem G6_apply (r : Fin 32768) :
    (G6 m c : Vec Ideal S32768x1 .f32) (ix2 r 0) = scale (krow m c r) := by
  have hN : cfg0.N = 64 := N_0
  have hp : pt6Of (ix2 r 0) = r.val / 512 := by
    show 1 * (r.val / 512 - 0) + 1 * (0 / 1 - 0) = _
    omega
  have hlt : r.val / 512 < cfg0.N := by omega
  have hl : loc6Of (ix2 r 0) = ix2 ⟨r.val % 512, by omega⟩ 0 := by
    funext a; apply Fin.ext
    match a with
    | ⟨0, _⟩ => rfl
    | ⟨1, _⟩ => rfl
  unfold G6
  rw [dif_pos (by rw [hp]; exact hlt), fold0_congr m c _ _ _ (by omega) hp, hl, ← outsAt0_sweep m c _ hlt]
  rw [out6 m c ⟨r.val / 512, hlt⟩, SC_apply, row_eq m c ⟨r.val / 512, hlt⟩ ⟨r.val % 512, by omega⟩ (by dsimp only; omega)]
  congr 2
  apply Fin.ext
  show 512 * (r.val / 512) + r.val % 512 = r.val
  omega

end Cert.KernelFinal

end
-- ==== Proof.RefArrays.lean ====
/- What the reference's host lines leave in the arrays of its pallas_call: the two rank-2 views of the activations, and
   the two block scales spread over the elements by one-hot products, read at an index. -/
module

public import proofs.«01_k».proof.Proof.Gen.ReferenceIdeal.Frame
public import Idealize.ShloMosaic.Lib.Pipeline.ValueKit
public import Idealize.ShloMosaic.Lib.Pointwise
public import Idealize.ShloMosaic.Lib.Pointwise.Sums
public import Idealize.ShloMosaic.Lib.Tactic.CleanTypes

@[expose] public section

set_option maxRecDepth 16384

noncomputable section

namespace Cert.RefArrays

open Idealize.ShloMosaic Idealize.ShloMosaic.TcCoe Cert.ReferenceIdeal Cert.ReferenceIdeal.Gen

/-- Floor division by 128, in its sign-correcting form, at a position. -/
theorem fd : ∀ n : Fin 7168, Scalar.select
      (IntOp.andi
        (IntOp.cmpi CmpIPredicate.ne
          (if BitVec.ofNat 32 n.val = 0 then (0 : BitVec 32) else if (BitVec.ofNat 32 n.val).msb = true then -1 else 1)
          (if 128#32 = 0 then (0 : BitVec 32) else if (128#32).msb = true then -1 else 1))
        (IntOp.cmpi CmpIPredicate.ne (IntOp.remsi ArithUnit.host (BitVec.ofNat 32 n.val) 128#32) 0#32))
      (IntOp.subi (IntOp.divsi ArithUnit.host (BitVec.ofNat 32 n.val) 128#32) 1#32)
      (IntOp.divsi ArithUnit.host (BitVec.ofNat 32 n.val) 128#32) =
    BitVec.ofNat 32 (n.val / 128) := by
  decide +kernel

/-- A comparison of two small numbers, read as a float: one when they are equal, else zero. -/
theorem oneHot (a b : ℕ) (ha : a < 2 ^ 32) (hb : b < 2 ^ 32) :
    (FloatOps.uitofp (F := Ideal) .bf16 (IntOp.cmpi .eq (BitVec.ofNat 32 a) (BitVec.ofNat 32 b)) : EReal) = if a = b then (1 : EReal) else 0 := by
  have hab : (BitVec.ofNat 32 a = BitVec.ofNat 32 b) ↔ a = b := by
    constructor
    · intro h
      have h' := congrArg BitVec.toNat h
      rw [BitVec.toNat_ofNat, BitVec.toNat_ofNat, Nat.mod_eq_of_lt ha, Nat.mod_eq_of_lt hb] at h'
      exact h'
    · rintro rfl; rfl
  show (((BitVec.ofBool (BitVec.ofNat 32 a == BitVec.ofNat 32 b)).toNat : ℝ) : EReal) = _
  by_cases h : a = b
  · subst h; simp
  · have h' : (BitVec.ofNat 32 a == BitVec.ofNat 32 b) = false := by rw [beq_eq_false_iff_ne]; exact fun e => h (hab.mp e)
    rw [h', if_neg h]; simp

/-- The floor division of the 7168 positions by 128, in the steps of its definition. -/
def FD7168 : IVec S1x7168 32 :=
  select (andi (cmpi .ne (signi (broadcastInDim S1x7168 ![1] bcast_S7168_S1x7168_1 (iotaInDim S7168 32 0))) (broadcastInDim S1x7168 ![] bcast_S_S1x7168 (signi (constantI S_ 32 128#32))))
      (cmpi .ne (Host.remsi (broadcastInDim S1x7168 ![1] bcast_S7168_S1x7168_1 (iotaInDim S7168 32 0)) (broadcastInDim S1x7168 ![] bcast_S_S1x7168 (constantI S_ 32 128#32))) (broadcastInDim S1x7168 ![] bcast_S_S1x7168 (constantI S_ 32 0#32))))
    (subi (Host.divsi (broadcastInDim S1x7168 ![1] bcast_S7168_S1x7168_1 (iotaInDim S7168 32 0)) (broadcastInDim S1x7168 ![] bcast_S_S1x7168 (constantI S_ 32 128#32))) (broadcastInDim S1x7168 ![] bcast_S_S1x7168 (constantI S_ 32 1#32)))
    (Host.divsi (broadcastInDim S1x7168 ![1] bcast_S7168_S1x7168_1 (iotaInDim S7168 32 0)) (broadcastInDim S1x7168 ![] bcast_S_S1x7168 (constantI S_ 32 128#32)))

theorem FD7168_apply (j : S1x7168.Idx) : FD7168 j = BitVec.ofNat 32 ((j 1).val / 128) := by
  idx_vars j
  unfold FD7168
  pointwise
  exact fd ⟨j1.val, by omega⟩

/-- The floor division of the 896 positions by 128, in the steps of its definition. -/
def FD896 : IVec S1x896 32 :=
  select (andi (cmpi .ne (signi (broadcastInDim S1x896 ![1] bcast_S896_S1x896_1 (iotaInDim S896 32 0))) (broadcastInDim S1x896 ![] bcast_S_S1x896 (signi (constantI S_ 32 128#32))))
      (cmpi .ne (Host.remsi (broadcastInDim S1x896 ![1] bcast_S896_S1x896_1 (iotaInDim S896 32 0)) (broadcastInDim S1x896 ![] bcast_S_S1x896 (constantI S_ 32 128#32))) (broadcastInDim S1x896 ![] bcast_S_S1x896 (constantI S_ 32 0#32))))
    (subi (Host.divsi (broadcastInDim S1x896 ![1] bcast_S896_S1x896_1 (iotaInDim S896 32 0)) (broadcastInDim S1x896 ![] bcast_S_S1x896 (constantI S_ 32 128#32))) (broadcastInDim S1x896 ![] bcast_S_S1x896 (constantI S_ 32 1#32)))
    (Host.divsi (broadcastInDim S1x896 ![1] bcast_S896_S1x896_1 (iotaInDim S896 32 0)) (broadcastInDim S1x896 ![] bcast_S_S1x896 (constantI S_ 32 128#32)))

theorem FD896_apply (j : S1x896.Idx) : FD896 j = BitVec.ofNat 32 ((j 1).val / 128) := by
  idx_vars j
  unfold FD896
  pointwise
  exact fd ⟨j1.val, by omega⟩

/-- The one-hot matrix of 7168 positions in 56 groups, as the host computes it. -/
def E7168 : FVec Ideal S56x7168 .bf16 :=
  uitofp .bf16 (cmpi .eq (broadcastInDim S56x7168 ![0, 1] bcast_S1x7168_S56x7168_0_1 FD7168)
    (broadcastInDim S56x7168 ![0, 1] bcast_S56x1_S56x7168_0_1 (broadcastInDim S56x1 ![0] bcast_S56_S56x1_0 (iotaInDim S56 32 0))))

theorem E7168_apply (k : Fin 56) (d : Fin 7168) : E7168 (ix2 k d) = (if d.val / 128 = k.val then (1 : EReal) else 0) := by
  unfold E7168
  pointwise
  rw [FD7168_apply]
  exact oneHot (d.val / 128) k.val (by omega) (by omega)

/-- The one-hot matrix of 896 positions in 7 groups, as the host computes it. -/
def E896 : FVec Ideal S7x896 .bf16 :=
  uitofp .bf16 (cmpi .eq (broadcastInDim S7x896 ![0, 1] bcast_S1x896_S7x896_0_1 FD896)
    (broadcastInDim S7x896 ![0, 1] bcast_S7x1_S7x896_0_1 (broadcastInDim S7x1 ![0] bcast_S7_S7x1_0 (iotaInDim S7 32 0))))

theorem E896_apply (k : Fin 7) (d : Fin 896) : E896 (ix2 k d) = (if d.val / 128 = k.val then (1 : EReal) else 0) := by
  unfold E896
  pointwise
  rw [FD896_apply]
  exact oneHot (d.val / 128) k.val (by omega) (by omega)

/-- A one-hot sum is its one term. -/
theorem pick {n : ℕ} (a : ℕ) (ha : a < n) (f : Fin n → EReal) : (∑ x : Fin n, f x * (if a = x.val then (1 : EReal) else 0)) = f ⟨a, ha⟩ := by
  rw [Finset.sum_eq_single (⟨a, ha⟩ : Fin n)]
  · rw [if_pos rfl, mul_one]
  · intro b _ hb
    rw [if_neg (fun e => hb (Fin.ext e.symm)), mul_zero]
  · intro h; exact absurd (Finset.mem_univ _) h

variable (m : (ℓ : Loc nD τ sig) → Buf (Elt Ideal) ℓ) (c : Dev nD)

theorem v26_eq : V m c main_v26 = shapeCast S32768x7168 (truncf .bf16 (Host.dotGeneral (F := Ideal) (φ₁ := .bf16) (φ₂ := .bf16) dot_S8x4096x56_S56x7168_S8x4096x7168_2_0_01_1_n_n none
    (truncf (F := Ideal) (φ := .f32) .bf16 (V m c main_arg1) bitsLt_bf16_f32) E7168) bitsLt_bf16_f32) shapeCasts_S8x4096x7168_S32768x7168 := by
  rw [V_main_arg1]
  unfold V
  simp only [hostOps0, hostOps0_1, hostOps0_2, hostOps0_3, hostOps0_4, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

/-- The activations' scales, spread over the columns. -/
theorem v26_apply (t : Fin 32768) (d : Fin 7168) : (V m c main_v26 : FVec Ideal S32768x7168 .bf16) (ix2 t d)
    = (V m c main_arg1 : FVec Ideal S8x4096x56 .f32) (ix3 ⟨t.val / 4096, by omega⟩ ⟨t.val % 4096, by omega⟩ ⟨d.val / 128, by omega⟩) := by
  rw [v26_eq]
  pointwise
  simp only [E7168_apply]
  exact pick (d.val / 128) (by omega) (fun x => (V m c main_arg1 : FVec Ideal S8x4096x56 .f32) (ix3 ⟨t.val / 4096, by omega⟩ ⟨t.val % 4096, by omega⟩ x))

theorem v27_eq : V m c main_v27 = truncf .bf16 (Host.dotGeneral (F := Ideal) (φ₁ := .bf16) (φ₂ := .bf16) dot_S56x7168_S56x896_S7168x896_0_0_1_1_n_n none E7168
    (truncf .bf16 (Host.dotGeneral (F := Ideal) (φ₁ := .bf16) (φ₂ := .bf16) dot_S56x7_S7x896_S56x896_1_0_0_1_n_n none (truncf (F := Ideal) (φ := .f32) .bf16 (V m c main_arg3) bitsLt_bf16_f32) E896) bitsLt_bf16_f32)) bitsLt_bf16_f32 := by
  rw [V_main_arg3]
  unfold V
  simp only [hostOps0, hostOps0_1, hostOps0_2, hostOps0_3, hostOps0_4, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

/-- The weights' scales, spread over rows and columns. -/
theorem v27_apply (d : Fin 7168) (o : Fin 896) : (V m c main_v27 : FVec Ideal S7168x896 .bf16) (ix2 d o)
    = (V m c main_arg3 : FVec Ideal S56x7 .f32) (ix2 ⟨d.val / 128, by omega⟩ ⟨o.val / 128, by omega⟩) := by
  rw [v27_eq]
  pointwise
  simp only [E7168_apply, E896_apply]
  have h (x : Fin 56) := pick (o.val / 128) (by omega) (fun y : Fin 7 => (V m c main_arg3 : FVec Ideal S56x7 .f32) (ix2 x y))
  simp only [h, mul_comm (if _ then (1 : EReal) else 0)]
  exact pick (d.val / 128) (by omega) (fun x => (V m c main_arg3 : FVec Ideal S56x7 .f32) (ix2 x ⟨o.val / 128, by omega⟩))

theorem v24_eq : V m c main_v24 = shapeCast S32768x7168 (V m c main_arg0 : Vec Ideal S8x4096x7168 .fp8e4m3) shapeCasts_S8x4096x7168_S32768x7168 := by
  rw [V_main_arg0]
  unfold V
  simp only [hostOps0, hostOps0_1, hostOps0_2, hostOps0_3, hostOps0_4, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

theorem v28_eq : V m c main_v28 = shapeCast S1x896 (V m c main_arg4 : Vec Ideal S896 .bf16) shapeCasts_S896_S1x896 := by
  rw [V_main_arg4]
  unfold V
  simp only [hostOps0, hostOps0_1, hostOps0_2, hostOps0_3, hostOps0_4, List.flatten_cons, List.flatten_nil, List.append_nil, List.cons_append, List.nil_append]
  after_results
  try simp only [StableHlo.TRef.ofBuf_toBuf, id]
  try simp only [StableHlo.TRef.ofBuf, StableHlo.TRef.toBuf, cast_eq]
  rfl

end Cert.RefArrays

end
-- ==== Proof.RefFinal.lean ====
module

public import proofs.«01_k».proof.Proof.Gen.ReferenceIdeal.Value
public import Idealize.ShloMosaic.PureOps.Ideal
public import Idealize.ShloMosaic.Lib.Pipeline.ValueKit

@[expose] public section

set_option maxRecDepth 16384

noncomputable section

/-! The reference's two results as functions of the arrays its one block reads. -/

namespace Cert.RefFinal

open Idealize.ShloMosaic Idealize.ShloMosaic.TcCoe Cert.ReferenceIdeal Cert.ReferenceIdeal.Gen

variable (m : (ℓ : Loc nD τ sig) → Buf (Elt Ideal) ℓ) (c : Dev nD)

theorem blk0 : iblk m c 0 t0_0 = V m c main_v24 := by
  have e : win0_0.index t0_0 = ![0, 0] := by decide +kernel
  have e0 : win0_0.index t0_0 0 = 0 := congrFun e 0
  have e1 : win0_0.index t0_0 1 = 0 := congrFun e 1
  funext j
  show V m c main_v24 ((win0_0.blk t0_0).view.emb j) = _
  refine congrArg _ ?_
  funext a; apply Fin.ext
  match a with
  | ⟨0, _⟩ => show win0_0.index t0_0 0 * 32768 + 1 * (j 0).val = (j 0).val; omega
  | ⟨1, _⟩ => show win0_0.index t0_0 1 * 7168 + 1 * (j 1).val = (j 1).val; omega

theorem blk1 : iblk m c 1 t0_0 = V m c main_v26 := by
  have e : win0_1.index t0_0 = ![0, 0] := by decide +kernel
  have e0 : win0_1.index t0_0 0 = 0 := congrFun e 0
  have e1 : win0_1.index t0_0 1 = 0 := congrFun e 1
  funext j
  show V m c main_v26 ((win0_1.blk t0_0).view.emb j) = _
  refine congrArg _ ?_
  funext a; apply Fin.ext
  match a with
  | ⟨0, _⟩ => show win0_1.index t0_0 0 * 32768 + 1 * (j 0).val = (j 0).val; omega
  | ⟨1, _⟩ => show win0_1.index t0_0 1 * 7168 + 1 * (j 1).val = (j 1).val; omega

theorem blk2 : iblk m c 2 t0_0 = V m c main_arg2 := by
  have e : win0_2.index t0_0 = ![0, 0] := by decide +kernel
  have e0 : win0_2.index t0_0 0 = 0 := congrFun e 0
  have e1 : win0_2.index t0_0 1 = 0 := congrFun e 1
  funext j
  show V m c main_arg2 ((win0_2.blk t0_0).view.emb j) = _
  refine congrArg _ ?_
  funext a; apply Fin.ext
  match a with
  | ⟨0, _⟩ => show win0_2.index t0_0 0 * 7168 + 1 * (j 0).val = (j 0).val; omega
  | ⟨1, _⟩ => show win0_2.index t0_0 1 * 896 + 1 * (j 1).val = (j 1).val; omega

theorem blk3 : iblk m c 3 t0_0 = V m c main_v27 := by
  have e : win0_3.index t0_0 = ![0, 0] := by decide +kernel
  have e0 : win0_3.index t0_0 0 = 0 := congrFun e 0
  have e1 : win0_3.index t0_0 1 = 0 := congrFun e 1
  funext j
  show V m c main_v27 ((win0_3.blk t0_0).view.emb j) = _
  refine congrArg _ ?_
  funext a; apply Fin.ext
  match a with
  | ⟨0, _⟩ => show win0_3.index t0_0 0 * 7168 + 1 * (j 0).val = (j 0).val; omega
  | ⟨1, _⟩ => show win0_3.index t0_0 1 * 896 + 1 * (j 1).val = (j 1).val; omega

theorem blk4 : iblk m c 4 t0_0 = V m c main_v28 := by
  have e : win0_4.index t0_0 = ![0, 0] := by decide +kernel
  have e0 : win0_4.index t0_0 0 = 0 := congrFun e 0
  have e1 : win0_4.index t0_0 1 = 0 := congrFun e 1
  funext j
  show V m c main_v28 ((win0_4.blk t0_0).view.emb j) = _
  refine congrArg _ ?_
  funext a; apply Fin.ext
  match a with
  | ⟨0, _⟩ => show win0_4.index t0_0 0 * 1 + 1 * (j 0).val = (j 0).val; omega
  | ⟨1, _⟩ => show win0_4.index t0_0 1 * 896 + 1 * (j 1).val = (j 1).val; omega

theorem off0 : (![0, 0] : Fin 2 → ℕ) = fun _ => 0 := by
  funext a
  match a with
  | ⟨0, _⟩ => rfl
  | ⟨1, _⟩ => rfl

section
variable (x0 : Vec Ideal S32768x7168 .fp8e4m3) (x1 : Vec Ideal S32768x7168 .bf16) (x2 : Vec Ideal S7168x896 .fp8e4m3)
  (x3 : Vec Ideal S7168x896 .bf16) (x4 : Vec Ideal S1x896 .bf16)

theorem out5 : out0_5 x0 x1 x2 x3 x4 = k0_pay2 (k0_pay4 x0 x1 x2 x3 x4) (k0_pay5 x0 x1 x2 x3 x4) (k0_pay6 x0 x1 x2 x3 x4) := by
  unfold out0_5 k0_pay8 k0_pay7
  rw [View.canon_unit_zero off0]
  rw [View.ld_unit_zero off0 _ x0, View.ld_unit_zero off0 _ x1, View.ld_unit_zero off0 _ x2, View.ld_unit_zero off0 _ x3, View.ld_unit_zero off0 _ x4]

theorem out6 : out0_6 x0 x1 x2 x3 x4 = k0_pay3 (k0_pay5 x0 x1 x2 x3 x4) (k0_pay6 x0 x1 x2 x3 x4) := by
  unfold out0_6 k0_pay8 k0_pay7
  rw [View.canon_unit_zero off0]
  rw [View.ld_unit_zero off0 _ x0, View.ld_unit_zero off0 _ x1, View.ld_unit_zero off0 _ x2, View.ld_unit_zero off0 _ x3, View.ld_unit_zero off0 _ x4]

end

/-- The first result array ends as what the one point leaves in its block. -/
theorem last5 (G : Vec Ideal S32768x896 .fp8e4m3) (h : (dats m 0 c).after 5 t0_0 = G) : (dats m 0 c).arrAt 5 cfg0.N = G := by
  refine (dats m 0 c).arrAt_eq_of_after_last 5 t0_0 (by decide +kernel) G fun j => ?_
  rw [h]
  rfl

/-- The second result array ends as what the one point leaves in its block. -/
theorem last6 (G : Vec Ideal S32768x1 .f32) (h : (dats m 0 c).after 6 t0_0 = G) : (dats m 0 c).arrAt 6 cfg0.N = G := by
  refine (dats m 0 c).arrAt_eq_of_after_last 6 t0_0 (by decide +kernel) G fun j => ?_
  rw [h]
  rfl

theorem final5 : (dats m 0 c).arrAt 5 cfg0.N =
    k0_pay2 (k0_pay4 (V m c main_v24) (V m c main_v26) (V m c main_arg2) (V m c main_v27) (V m c main_v28))
      (k0_pay5 (V m c main_v24) (V m c main_v26) (V m c main_arg2) (V m c main_v27) (V m c main_v28))
      (k0_pay6 (V m c main_v24) (V m c main_v26) (V m c main_arg2) (V m c main_v27) (V m c main_v28)) := by
  refine last5 m c _ ?_
  rw [after0_5, out5, blk0, blk1, blk2, blk3, blk4]

theorem final6 : (dats m 0 c).arrAt 6 cfg0.N =
    k0_pay3 (k0_pay5 (V m c main_v24) (V m c main_v26) (V m c main_arg2) (V m c main_v27) (V m c main_v28))
      (k0_pay6 (V m c main_v24) (V m c main_v26) (V m c main_arg2) (V m c main_v27) (V m c main_v28)) := by
  refine last6 m c _ ?_
  rw [after0_6, out6, blk0, blk1, blk2, blk3, blk4]

end Cert.RefFinal

end
-- ==== Proof.RefRow.lean ====
module

public import proofs.«01_k».proof.Proof.Gen.ReferenceIdeal.Value
public import proofs.«01_k».proof.Proof.Layer
public import Idealize.ShloMosaic.Lib.Pointwise
public import Idealize.ShloMosaic.Lib.Pointwise.Sums

@[expose] public section

set_option maxRecDepth 16384

noncomputable section

/-! The reference's result, read row by row. -/

namespace Cert.RefRow

open Idealize.ShloMosaic Cert.ReferenceIdeal Cert.ReferenceIdeal.Gen Cert.Exponent Cert.Layer

/-- A lane of the comparison holds one where the lane's power of two is not above the number. -/
theorem lane (v : FVec Ideal S32768x1 .f32) (q : FVec Ideal S1x252 .f32) (r : Fin 32768) (k : Fin 252) :
    (sitofp .f32 (extui 32 (cmpf .oge (broadcastTo S32768x252 v broadcasts_S32768x1_S32768x252)
      (broadcastTo S32768x252 q broadcasts_S1x252_S32768x252)) natLt_1_32) : FVec Ideal S32768x252 .f32) (ix2 r k) =
    if q (ix2 0 k) ≤ v (ix2 r 0) then 1 else 0 := by
  pointwise
  exact lane_bit _

theorem powers (k : Fin 252) :
    (exp2 (subf (sitofp .f32 (iota .tc S1x252 32 [1] iota_S1x252_d1_w32))
      (broadcast S1x252 (Scalar.ofBits .f32 0x42FC0000#32))) : FVec Ideal S1x252 .f32) (ix2 0 k) = pw (k.val + 1) := by
  rw [← lane_pow]
  pointwise
  rfl

theorem e_apply (a : FVec Ideal S32768x1 .f32) (s : FVec Ideal S32768x252 .f32) (r : Fin 32768) :
    k0_pay1 a s (ix2 r 0) =
      if a (ix2 r 0) = 0 then 0 else ∑ k, s (ix2 r k) - Ideal.ofBits .f32 0x42FC0000#32 := by
  unfold k0_pay1
  pointwise

theorem y_apply (h : FVec Ideal S32768x896 .f32) (a : FVec Ideal S32768x1 .f32) (s : FVec Ideal S32768x252 .f32)
    (r : Fin 32768) (o : Fin 896) :
    k0_pay2 h a s (ix2 r o) = min (Ideal.ofBits .f32 0x43E00000#32) (max (Ideal.ofBits .f32 0xC3E00000#32)
      (h (ix2 r o) * Ideal.exp2 (0 - k0_pay1 a s (ix2 r 0)))) := by
  unfold k0_pay2
  pointwise
  rfl

/-- A column's entry is the largest magnitude of its row. -/
theorem a_raw (h : FVec Ideal S32768x896 .f32) (r : Fin 32768) :
    (shapeCast S32768x1 (multiReduction .maximumf [1] S32768 (absf h) 0xFF800000#32 reduces_S32768x896_S32768 (.inl rfl) rfl :
      FVec Ideal S32768 .f32) shapeCasts_S32768_S32768x1 : FVec Ideal S32768x1 .f32) (ix2 r 0) = amax (fun o => h (ix2 r o)) := by
  pointwise
  unfold amax
  rfl

theorem exp2_apply (v : FVec Ideal S32768x1 .f32) (j : S32768x1.Idx) : exp2 v j = Ideal.exp2 (v j) := rfl

theorem s_apply (a : FVec Ideal S32768x1 .f32) (s : FVec Ideal S32768x252 .f32) (j : S32768x1.Idx) :
    k0_pay3 a s j = Ideal.exp2 (k0_pay1 a s j) := by
  unfold k0_pay3
  rw [exp2_apply]

theorem mul_apply (v : FVec Ideal S32768x1 .f32) (c : EReal) (j : S32768x1.Idx) :
    (mulf v (broadcast S32768x1 c : FVec Ideal S32768x1 .f32) : FVec Ideal S32768x1 .f32) j = v j * c := rfl

theorem lanes_gen (a : FVec Ideal S32768x1 .f32) (c : EReal) (r : Fin 32768) (k : Fin 252) :
    (sitofp .f32 (extui 32 (cmpf .oge (broadcastTo S32768x252 (mulf a (broadcast S32768x1 c : FVec Ideal S32768x1 .f32))
      broadcasts_S32768x1_S32768x252) (broadcastTo S32768x252
        (exp2 (subf (sitofp .f32 (iota .tc S1x252 32 [1] iota_S1x252_d1_w32))
          (broadcast S1x252 (Scalar.ofBits .f32 0x42FC0000#32))) : FVec Ideal S1x252 .f32)
      broadcasts_S1x252_S32768x252)) natLt_1_32) : FVec Ideal S32768x252 .f32) (ix2 r k) =
    if pw (k.val + 1) ≤ a (ix2 r 0) * c then 1 else 0 := by
  rw [lane, powers, mul_apply]

variable (x : Vec Ideal S32768x7168 .fp8e4m3) (xs : Vec Ideal S32768x7168 .bf16) (w : Vec Ideal S7168x896 .fp8e4m3)
  (ws : Vec Ideal S7168x896 .bf16) (b : Vec Ideal S1x896 .bf16)

/-- The activations of one row. -/
def row (r : Fin 32768) (o : Fin 896) : EReal :=
  gelu (∑ d, x (ix2 r d) * xs (ix2 r d) * (w (ix2 d o) * ws (ix2 d o)) + b (ix2 0 o))

theorem h_apply (r : Fin 32768) (o : Fin 896) : k0_pay4 x xs w ws b (ix2 r o) = row x xs w ws b r o := by
  unfold k0_pay4 row
  pointwise
  exact gelu_erfc _

theorem a_apply (r : Fin 32768) : k0_pay5 x xs w ws b (ix2 r 0) = amax (row x xs w ws b r) := by
  unfold k0_pay5
  rw [a_raw]
  exact congrArg amax (funext fun o => h_apply x xs w ws b r o)

theorem lanes_raw (r : Fin 32768) (k : Fin 252) : k0_pay6 x xs w ws b (ix2 r k) =
    if pw (k.val + 1) ≤ k0_pay5 x xs w ws b (ix2 r 0) * Ideal.ofBits .f32 0x3B124925#32 then 1 else 0 := by
  unfold k0_pay6
  exact lanes_gen (k0_pay5 x xs w ws b) (Ideal.ofBits .f32 0x3B124925#32) r k

theorem lanes_apply (r : Fin 32768) (k : Fin 252) : k0_pay6 x xs w ws b (ix2 r k) =
    if pw (k.val + 1) ≤ amax (row x xs w ws b r) * Ideal.ofBits .f32 0x3B124925#32 then 1 else 0 := by
  rw [lanes_raw, a_apply]

/-- The exponent of row `r`. -/
theorem ex_apply (r : Fin 32768) : k0_pay1 (k0_pay5 x xs w ws b) (k0_pay6 x xs w ws b) (ix2 r 0) = ex (row x xs w ws b r) := by
  rw [e_apply, a_apply]
  simp only [lanes_apply]
  rw [sum_reached, ofBits_126]
  unfold ex eR
  simp only [Scalar.select, Ideal.cmp]
  by_cases h : amax (row x xs w ws b r) = 0 <;> simp [h]

/-- The scale of row `r`. -/
theorem scale_apply (r : Fin 32768) :
    k0_pay3 (k0_pay5 x xs w ws b) (k0_pay6 x xs w ws b) (ix2 r 0) = scale (row x xs w ws b r) := by
  rw [s_apply, ex_apply]
  rfl

/-- The quantised value in row `r` and column `o`. -/
theorem quant_apply (r : Fin 32768) (o : Fin 896) :
    k0_pay2 (k0_pay4 x xs w ws b) (k0_pay5 x xs w ws b) (k0_pay6 x xs w ws b) (ix2 r o) = quant (row x xs w ws b r) o := by
  rw [y_apply, ex_apply, h_apply]
  rfl

end Cert.RefRow

end
-- ==== Proof.Equation.lean ====
/- The kernel's and the reference's result arrays are equal when their arguments are. -/
module

public import proofs.«01_k».proof.Proof.KernelArrays
public import proofs.«01_k».proof.Proof.KernelFinal
public import proofs.«01_k».proof.Proof.RefArrays
public import proofs.«01_k».proof.Proof.RefFinal
public import proofs.«01_k».proof.Proof.RefRow

@[expose] public section

set_option maxRecDepth 16384

noncomputable section

namespace Cert.Equation

open Idealize.ShloMosaic Idealize.ShloMosaic.TcCoe Cert.KernelFinal Cert.Layer

/-- Spreading the scales over the elements first, or reading the block's scale at each element, is the same row. -/
theorem row_lrow (x : Vec Ideal Cert.KernelIdeal.S32768x7168 .fp8e4m3) (xs : Vec Ideal Cert.KernelIdeal.S32768x7168 .bf16)
    (x1 : Vec Ideal Cert.KernelIdeal.S32768x56 .f32) (w : Vec Ideal Cert.KernelIdeal.S7168x896 .fp8e4m3)
    (ws : Vec Ideal Cert.KernelIdeal.S7168x896 .bf16) (w1 : Vec Ideal Cert.KernelIdeal.S56x7 .f32)
    (b : Vec Ideal Cert.KernelIdeal.S1x896 .bf16)
    (hx : ∀ (t : Fin 32768) (d : Fin 7168), xs (ix2 t d) = x1 (ix2 t ⟨d.val / 128, by omega⟩))
    (hw : ∀ (d : Fin 7168) (o : Fin 896), ws (ix2 d o) = w1 (ix2 ⟨d.val / 128, by omega⟩ ⟨o.val / 128, by omega⟩))
    (r : Fin 32768) : Cert.RefRow.row x xs w ws b r = lrow x x1 w w1 b r := by
  funext o
  unfold Cert.RefRow.row lrow
  simp only [hx, hw]

theorem lrow_congr {x x' : Vec Ideal Cert.KernelIdeal.S32768x7168 .fp8e4m3} {x1 : Vec Ideal Cert.KernelIdeal.S32768x56 .f32}
    {w w' : Vec Ideal Cert.KernelIdeal.S7168x896 .fp8e4m3} {w1 : Vec Ideal Cert.KernelIdeal.S56x7 .f32}
    {b b' : Vec Ideal Cert.KernelIdeal.S1x896 .bf16} (hx : x = x') (hw : w = w') (hb : b = b') (r : Fin 32768) :
    lrow x x1 w w1 b r = lrow x' x1 w' w1 b' r := by
  rw [hx, hw, hb]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

theorem arg0 (h : Agree m m' c) : (Cert.ReferenceIdeal.Gen.V m' c Cert.ReferenceIdeal.main_arg0 : Vec Ideal Cert.KernelIdeal.S8x4096x7168 .fp8e4m3) =
    Cert.KernelIdeal.Gen.V m c Cert.KernelIdeal.main_arg0 :=
  (Cert.ReferenceIdeal.Gen.V_main_arg0 m' c).trans (h.1.trans (Cert.KernelIdeal.Gen.V_main_arg0 m c).symm)

theorem arg1 (h : Agree m m' c) : (Cert.ReferenceIdeal.Gen.V m' c Cert.ReferenceIdeal.main_arg1 : Vec Ideal Cert.KernelIdeal.S8x4096x56 .f32) =
    Cert.KernelIdeal.Gen.V m c Cert.KernelIdeal.main_arg1 :=
  (Cert.ReferenceIdeal.Gen.V_main_arg1 m' c).trans (h.2.1.trans (Cert.KernelIdeal.Gen.V_main_arg1 m c).symm)

theorem arg2 (h : Agree m m' c) : (Cert.ReferenceIdeal.Gen.V m' c Cert.ReferenceIdeal.main_arg2 : Vec Ideal Cert.KernelIdeal.S7168x896 .fp8e4m3) =
    Cert.KernelIdeal.Gen.V m c Cert.KernelIdeal.main_arg2 :=
  (Cert.ReferenceIdeal.Gen.V_main_arg2 m' c).trans (h.2.2.1.trans (Cert.KernelIdeal.Gen.V_main_arg2 m c).symm)

theorem arg3 (h : Agree m m' c) : (Cert.ReferenceIdeal.Gen.V m' c Cert.ReferenceIdeal.main_arg3 : Vec Ideal Cert.KernelIdeal.S56x7 .f32) =
    Cert.KernelIdeal.Gen.V m c Cert.KernelIdeal.main_arg3 :=
  (Cert.ReferenceIdeal.Gen.V_main_arg3 m' c).trans (h.2.2.2.1.trans (Cert.KernelIdeal.Gen.V_main_arg3 m c).symm)

theorem arg4 (h : Agree m m' c) : (Cert.ReferenceIdeal.Gen.V m' c Cert.ReferenceIdeal.main_arg4 : Vec Ideal Cert.KernelIdeal.S896 .bf16) =
    Cert.KernelIdeal.Gen.V m c Cert.KernelIdeal.main_arg4 :=
  (Cert.ReferenceIdeal.Gen.V_main_arg4 m' c).trans (h.2.2.2.2.trans (Cert.KernelIdeal.Gen.V_main_arg4 m c).symm)

theorem act (h : Agree m m' c) : (Cert.ReferenceIdeal.Gen.V m' c Cert.ReferenceIdeal.main_v24 : Vec Ideal Cert.KernelIdeal.S32768x7168 .fp8e4m3) =
    Cert.KernelIdeal.Gen.V m c Cert.KernelIdeal.main_v0 := by
  refine (Cert.RefArrays.v24_eq m' c).trans (Eq.trans ?_ (Cert.KernelArrays.v0_eq m c).symm)
  exact congrArg (fun z : Vec Ideal Cert.KernelIdeal.S8x4096x7168 .fp8e4m3 => (shapeCast Cert.KernelIdeal.S32768x7168 z
    Cert.KernelIdeal.Gen.shapeCasts_S8x4096x7168_S32768x7168 : Vec Ideal Cert.KernelIdeal.S32768x7168 .fp8e4m3)) (arg0 h)

theorem bias (h : Agree m m' c) : (Cert.ReferenceIdeal.Gen.V m' c Cert.ReferenceIdeal.main_v28 : Vec Ideal Cert.KernelIdeal.S1x896 .bf16) =
    Cert.KernelIdeal.Gen.V m c Cert.KernelIdeal.main_v2 := by
  refine (Cert.RefArrays.v28_eq m' c).trans (Eq.trans ?_ (Cert.KernelArrays.v2_eq m c).symm)
  exact congrArg (fun z : Vec Ideal Cert.KernelIdeal.S896 .bf16 => (shapeCast Cert.KernelIdeal.S1x896 z
    Cert.KernelIdeal.Gen.shapeCasts_S896_S1x896 : Vec Ideal Cert.KernelIdeal.S1x896 .bf16)) (arg4 h)

/-- The reference's row is the kernel's. -/
theorem rows (h : Agree m m' c) (r : Fin 32768) :
    Cert.RefRow.row (Cert.ReferenceIdeal.Gen.V m' c Cert.ReferenceIdeal.main_v24) (Cert.ReferenceIdeal.Gen.V m' c Cert.ReferenceIdeal.main_v26)
      (Cert.ReferenceIdeal.Gen.V m' c Cert.ReferenceIdeal.main_arg2) (Cert.ReferenceIdeal.Gen.V m' c Cert.ReferenceIdeal.main_v27)
      (Cert.ReferenceIdeal.Gen.V m' c Cert.ReferenceIdeal.main_v28) r = krow m c r := by
  refine (row_lrow _ _ (Cert.KernelIdeal.Gen.V m c Cert.KernelIdeal.main_v1) _ _ (Cert.KernelIdeal.Gen.V m c Cert.KernelIdeal.main_arg3) _
    ?_ ?_ r).trans ?_
  · intro t d
    refine (Cert.RefArrays.v26_apply m' c t d).trans ?_
    refine (congrFun (arg1 h) _).trans ?_
    refine Eq.symm ?_
    refine (congrFun (Cert.KernelArrays.v1_eq m c) _).trans ?_
    exact Cert.KernelArrays.view_apply (Cert.KernelIdeal.Gen.V m c Cert.KernelIdeal.main_arg1) t ⟨d.val / 128, by omega⟩
  · intro d o
    exact (Cert.RefArrays.v27_apply m' c d o).trans (congrFun (arg3 h) _)
  · unfold krow
    exact lrow_congr (act h) (arg2 h) (bias h) r

/-- The quantised arrays agree. -/
theorem result5 (h : Agree m m' c) : ((Cert.ReferenceIdeal.Gen.dats m' 0 c).arrAt 5 Cert.ReferenceIdeal.cfg0.N : Vec Ideal Cert.KernelIdeal.S32768x896 .fp8e4m3) =
    Cert.KernelIdeal.Value.G5 m c := by
  refine (Cert.RefFinal.final5 m' c).trans ?_
  funext i
  obtain ⟨r, o, rfl⟩ : ∃ (r : Fin 32768) (o : Fin 896), i = ix2 r o := ⟨i 0, i 1, by funext a; match a with | ⟨0, _⟩ => rfl | ⟨1, _⟩ => rfl⟩
  refine (Cert.RefRow.quant_apply _ _ _ _ _ r o).trans ?_
  refine Eq.trans ?_ (G5_apply m c r o).symm
  exact congrArg (fun z => quant z o) (rows h r)

/-- The scales agree. -/
theorem result6 (h : Agree m m' c) : ((Cert.ReferenceIdeal.Gen.dats m' 0 c).arrAt 6 Cert.ReferenceIdeal.cfg0.N : Vec Ideal Cert.KernelIdeal.S32768x1 .f32) =
    Cert.KernelIdeal.Value.G6 m c := by
  refine (Cert.RefFinal.final6 m' c).trans ?_
  funext i
  obtain ⟨r, rfl⟩ : ∃ r : Fin 32768, i = ix2 r (0 : Fin 1) :=
    ⟨i 0, by funext a; match a with | ⟨0, _⟩ => rfl | ⟨1, _⟩ => exact Subsingleton.elim (α := Fin 1) _ _⟩
  refine (Cert.RefRow.scale_apply _ _ _ _ _ r).trans ?_
  refine Eq.trans ?_ (G6_apply m c r).symm
  exact congrArg scale (rows h r)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

theorem algebraic : Cert.algebraic_KernelIdeal_ReferenceIdeal (hKernelIdeal := Cert.KernelIdeal.Gen.facts)
    (hReferenceIdeal := Cert.ReferenceIdeal.Gen.facts) := by
  intro m g m' g' _ h
  exact ⟨fun c => Cert.KernelIdeal.Value.G5 m c, fun c => Cert.KernelIdeal.Value.G6 m c, Cert.KernelIdeal.Value.run m g,
    (θ_run Cert.ReferenceIdeal.defs _ _).mono (fun r q c => ⟨(q c).1.trans (Cert.Equation.result5 (h c)),
      (q c).2.1.trans (Cert.Equation.result6 (h c)), (q c).2.2⟩) (Cert.ReferenceIdeal.Value.run_blocks m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
